-- ==== Defs.lean ====
def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12)
      ∧ r.2.mem ((c.tc : Thread Cert.SampleRefIdeal.nD Cert.SampleRefIdeal.τ).loc Cert.SampleRefIdeal.main_arg13) = m ((c.tc : Thread Cert.SampleRefIdeal.nD Cert.SampleRefIdeal.τ).loc Cert.SampleRefIdeal.main_arg13)
      ∧ r.2.mem ((c.tc : Thread Cert.SampleRefIdeal.nD Cert.SampleRefIdeal.τ).loc Cert.SampleRefIdeal.main_arg14) = m ((c.tc : Thread Cert.SampleRefIdeal.nD Cert.SampleRefIdeal.τ).loc Cert.SampleRefIdeal.main_arg14)
      ∧ r.2.mem ((c.tc : Thread Cert.SampleRefIdeal.nD Cert.SampleRefIdeal.τ).loc Cert.SampleRefIdeal.main_arg15) = m ((c.tc : Thread Cert.SampleRefIdeal.nD Cert.SampleRefIdeal.τ).loc Cert.SampleRefIdeal.main_arg15)
      ∧ r.2.mem ((c.tc : Thread Cert.SampleRefIdeal.nD Cert.SampleRefIdeal.τ).loc Cert.SampleRefIdeal.main_arg16) = m ((c.tc : Thread Cert.SampleRefIdeal.nD Cert.SampleRefIdeal.τ).loc Cert.SampleRefIdeal.main_arg16))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13)
      ∧ r.2.mem ((c.tc : Thread Cert.Prompt.nD Cert.Prompt.τ).loc Cert.Prompt.main_arg14) = m ((c.tc : Thread Cert.Prompt.nD Cert.Prompt.τ).loc Cert.Prompt.main_arg14))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10)
      ∧ r.2.mem ((c.tc : Thread Cert.PromptRefIdeal.nD Cert.PromptRefIdeal.τ).loc Cert.PromptRefIdeal.main_arg11) = m ((c.tc : Thread Cert.PromptRefIdeal.nD Cert.PromptRefIdeal.τ).loc Cert.PromptRefIdeal.main_arg11)
      ∧ r.2.mem ((c.tc : Thread Cert.PromptRefIdeal.nD Cert.PromptRefIdeal.τ).loc Cert.PromptRefIdeal.main_arg12) = m ((c.tc : Thread Cert.PromptRefIdeal.nD Cert.PromptRefIdeal.τ).loc Cert.PromptRefIdeal.main_arg12)
      ∧ r.2.mem ((c.tc : Thread Cert.PromptRefIdeal.nD Cert.PromptRefIdeal.τ).loc Cert.PromptRefIdeal.main_arg13) = m ((c.tc : Thread Cert.PromptRefIdeal.nD Cert.PromptRefIdeal.τ).loc Cert.PromptRefIdeal.main_arg13)
      ∧ r.2.mem ((c.tc : Thread Cert.PromptRefIdeal.nD Cert.PromptRefIdeal.τ).loc Cert.PromptRefIdeal.main_arg14) = m ((c.tc : Thread Cert.PromptRefIdeal.nD Cert.PromptRefIdeal.τ).loc Cert.PromptRefIdeal.main_arg14))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)
      ∧ m' ((c.tc : Thread Cert.SampleRefIdeal.nD Cert.SampleRefIdeal.τ).loc Cert.SampleRefIdeal.main_arg12) = m ((c.tc : Thread Cert.SampleIdeal.nD Cert.SampleIdeal.τ).loc Cert.SampleIdeal.main_arg12)
      ∧ m' ((c.tc : Thread Cert.SampleRefIdeal.nD Cert.SampleRefIdeal.τ).loc Cert.SampleRefIdeal.main_arg13) = m ((c.tc : Thread Cert.SampleIdeal.nD Cert.SampleIdeal.τ).loc Cert.SampleIdeal.main_arg13)
      ∧ m' ((c.tc : Thread Cert.SampleRefIdeal.nD Cert.SampleRefIdeal.τ).loc Cert.SampleRefIdeal.main_arg14) = m ((c.tc : Thread Cert.SampleIdeal.nD Cert.SampleIdeal.τ).loc Cert.SampleIdeal.main_arg14)
      ∧ m' ((c.tc : Thread Cert.SampleRefIdeal.nD Cert.SampleRefIdeal.τ).loc Cert.SampleRefIdeal.main_arg15) = m ((c.tc : Thread Cert.SampleIdeal.nD Cert.SampleIdeal.τ).loc Cert.SampleIdeal.main_arg15)
      ∧ m' ((c.tc : Thread Cert.SampleRefIdeal.nD Cert.SampleRefIdeal.τ).loc Cert.SampleRefIdeal.main_arg16) = m ((c.tc : Thread Cert.SampleIdeal.nD Cert.SampleIdeal.τ).loc Cert.SampleIdeal.main_arg16)) →
    ∃ (v0 : (c : Dev Cert.SampleIdeal.nD) → Buf (Elt Ideal) ((c.tc : Thread Cert.SampleIdeal.nD Cert.SampleIdeal.τ).loc Cert.SampleIdeal.main_v0_0)) (v1 : (c : Dev Cert.SampleIdeal.nD) → Buf (Elt Ideal) ((c.tc : Thread Cert.SampleIdeal.nD Cert.SampleIdeal.τ).loc Cert.SampleIdeal.main_v0_1)) (v2 : (c : Dev Cert.SampleIdeal.nD) → Buf (Elt Ideal) ((c.tc : Thread Cert.SampleIdeal.nD Cert.SampleIdeal.τ).loc Cert.SampleIdeal.main_v0_2)) (v3 : (c : Dev Cert.SampleIdeal.nD) → Buf (Elt Ideal) ((c.tc : Thread Cert.SampleIdeal.nD Cert.SampleIdeal.τ).loc Cert.SampleIdeal.main_v0_3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0_0) = v0 c
          ∧ r.2.mem ((c.tc : Thread Cert.SampleIdeal.nD Cert.SampleIdeal.τ).loc Cert.SampleIdeal.main_v0_1) = v1 c
          ∧ r.2.mem ((c.tc : Thread Cert.SampleIdeal.nD Cert.SampleIdeal.τ).loc Cert.SampleIdeal.main_v0_2) = v2 c
          ∧ r.2.mem ((c.tc : Thread Cert.SampleIdeal.nD Cert.SampleIdeal.τ).loc Cert.SampleIdeal.main_v0_3) = v3 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v136) = v0 c
          ∧ r.2.mem ((c.tc : Thread Cert.SampleRefIdeal.nD Cert.SampleRefIdeal.τ).loc Cert.SampleRefIdeal.main_v91) = v1 c
          ∧ r.2.mem ((c.tc : Thread Cert.SampleRefIdeal.nD Cert.SampleRefIdeal.τ).loc Cert.SampleRefIdeal.main_v97) = v2 c
          ∧ r.2.mem ((c.tc : Thread Cert.SampleRefIdeal.nD Cert.SampleRefIdeal.τ).loc Cert.SampleRefIdeal.main_v137) = v3 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11)
          ∧ r.2.mem ((c.tc : Thread Cert.SampleRefIdeal.nD Cert.SampleRefIdeal.τ).loc Cert.SampleRefIdeal.main_arg12) = m' ((c.tc : Thread Cert.SampleRefIdeal.nD Cert.SampleRefIdeal.τ).loc Cert.SampleRefIdeal.main_arg12)
          ∧ r.2.mem ((c.tc : Thread Cert.SampleRefIdeal.nD Cert.SampleRefIdeal.τ).loc Cert.SampleRefIdeal.main_arg13) = m' ((c.tc : Thread Cert.SampleRefIdeal.nD Cert.SampleRefIdeal.τ).loc Cert.SampleRefIdeal.main_arg13)
          ∧ r.2.mem ((c.tc : Thread Cert.SampleRefIdeal.nD Cert.SampleRefIdeal.τ).loc Cert.SampleRefIdeal.main_arg14) = m' ((c.tc : Thread Cert.SampleRefIdeal.nD Cert.SampleRefIdeal.τ).loc Cert.SampleRefIdeal.main_arg14)
          ∧ r.2.mem ((c.tc : Thread Cert.SampleRefIdeal.nD Cert.SampleRefIdeal.τ).loc Cert.SampleRefIdeal.main_arg15) = m' ((c.tc : Thread Cert.SampleRefIdeal.nD Cert.SampleRefIdeal.τ).loc Cert.SampleRefIdeal.main_arg15)
          ∧ r.2.mem ((c.tc : Thread Cert.SampleRefIdeal.nD Cert.SampleRefIdeal.τ).loc Cert.SampleRefIdeal.main_arg16) = m' ((c.tc : Thread Cert.SampleRefIdeal.nD Cert.SampleRefIdeal.τ).loc Cert.SampleRefIdeal.main_arg16))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)
      ∧ m' ((c.tc : Thread Cert.PromptRefIdeal.nD Cert.PromptRefIdeal.τ).loc Cert.PromptRefIdeal.main_arg11) = m ((c.tc : Thread Cert.PromptIdeal.nD Cert.PromptIdeal.τ).loc Cert.PromptIdeal.main_arg11)
      ∧ m' ((c.tc : Thread Cert.PromptRefIdeal.nD Cert.PromptRefIdeal.τ).loc Cert.PromptRefIdeal.main_arg12) = m ((c.tc : Thread Cert.PromptIdeal.nD Cert.PromptIdeal.τ).loc Cert.PromptIdeal.main_arg12)
      ∧ m' ((c.tc : Thread Cert.PromptRefIdeal.nD Cert.PromptRefIdeal.τ).loc Cert.PromptRefIdeal.main_arg13) = m ((c.tc : Thread Cert.PromptIdeal.nD Cert.PromptIdeal.τ).loc Cert.PromptIdeal.main_arg13)
      ∧ m' ((c.tc : Thread Cert.PromptRefIdeal.nD Cert.PromptRefIdeal.τ).loc Cert.PromptRefIdeal.main_arg14) = m ((c.tc : Thread Cert.PromptIdeal.nD Cert.PromptIdeal.τ).loc Cert.PromptIdeal.main_arg14)) →
    ∃ (v0 : (c : Dev Cert.PromptIdeal.nD) → Buf (Elt Ideal) ((c.tc : Thread Cert.PromptIdeal.nD Cert.PromptIdeal.τ).loc Cert.PromptIdeal.main_v0_1)) (v1 : (c : Dev Cert.PromptIdeal.nD) → Buf (Elt Ideal) ((c.tc : Thread Cert.PromptIdeal.nD Cert.PromptIdeal.τ).loc Cert.PromptIdeal.main_v0_2)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v0_1) = v0 c
          ∧ r.2.mem ((c.tc : Thread Cert.PromptIdeal.nD Cert.PromptIdeal.τ).loc Cert.PromptIdeal.main_v0_2) = v1 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
          ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v22_4) = v0 c
          ∧ r.2.mem ((c.tc : Thread Cert.PromptRefIdeal.nD Cert.PromptRefIdeal.τ).loc Cert.PromptRefIdeal.main_v22_5) = v1 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10)
          ∧ r.2.mem ((c.tc : Thread Cert.PromptRefIdeal.nD Cert.PromptRefIdeal.τ).loc Cert.PromptRefIdeal.main_arg11) = m' ((c.tc : Thread Cert.PromptRefIdeal.nD Cert.PromptRefIdeal.τ).loc Cert.PromptRefIdeal.main_arg11)
          ∧ r.2.mem ((c.tc : Thread Cert.PromptRefIdeal.nD Cert.PromptRefIdeal.τ).loc Cert.PromptRefIdeal.main_arg12) = m' ((c.tc : Thread Cert.PromptRefIdeal.nD Cert.PromptRefIdeal.τ).loc Cert.PromptRefIdeal.main_arg12)
          ∧ r.2.mem ((c.tc : Thread Cert.PromptRefIdeal.nD Cert.PromptRefIdeal.τ).loc Cert.PromptRefIdeal.main_arg13) = m' ((c.tc : Thread Cert.PromptRefIdeal.nD Cert.PromptRefIdeal.τ).loc Cert.PromptRefIdeal.main_arg13)
          ∧ r.2.mem ((c.tc : Thread Cert.PromptRefIdeal.nD Cert.PromptRefIdeal.τ).loc Cert.PromptRefIdeal.main_arg14) = m' ((c.tc : Thread Cert.PromptRefIdeal.nD Cert.PromptRefIdeal.τ).loc Cert.PromptRefIdeal.main_arg14))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)) (v3 : (c : Dev Cert.PrepIdeal.nD) → Buf (Elt Ideal) ((c.tc : Thread Cert.PrepIdeal.nD Cert.PrepIdeal.τ).loc Cert.PrepIdeal.main_v5_3)) (v4 : (c : Dev Cert.PrepIdeal.nD) → Buf (Elt Ideal) ((c.tc : Thread Cert.PrepIdeal.nD Cert.PrepIdeal.τ).loc Cert.PrepIdeal.main_v5_4)) (v5 : (c : Dev Cert.PrepIdeal.nD) → Buf (Elt Ideal) ((c.tc : Thread Cert.PrepIdeal.nD Cert.PrepIdeal.τ).loc Cert.PrepIdeal.main_v5_5)) (v6 : (c : Dev Cert.PrepIdeal.nD) → Buf (Elt Ideal) ((c.tc : Thread Cert.PrepIdeal.nD Cert.PrepIdeal.τ).loc Cert.PrepIdeal.main_v5_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_v5_3) = v3 c
          ∧ r.2.mem ((c.tc : Thread Cert.PrepIdeal.nD Cert.PrepIdeal.τ).loc Cert.PrepIdeal.main_v5_4) = v4 c
          ∧ r.2.mem ((c.tc : Thread Cert.PrepIdeal.nD Cert.PrepIdeal.τ).loc Cert.PrepIdeal.main_v5_5) = v5 c
          ∧ r.2.mem ((c.tc : Thread Cert.PrepIdeal.nD Cert.PrepIdeal.τ).loc Cert.PrepIdeal.main_v5_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v41) = v0 c
          ∧ r.2.mem ((c.tc : Thread Cert.PrepRefIdeal.nD Cert.PrepRefIdeal.τ).loc Cert.PrepRefIdeal.main_v43) = v1 c
          ∧ r.2.mem ((c.tc : Thread Cert.PrepRefIdeal.nD Cert.PrepRefIdeal.τ).loc Cert.PrepRefIdeal.main_v93) = v2 c
          ∧ r.2.mem ((c.tc : Thread Cert.PrepRefIdeal.nD Cert.PrepRefIdeal.τ).loc Cert.PrepRefIdeal.main_v94) = v3 c
          ∧ r.2.mem ((c.tc : Thread Cert.PrepRefIdeal.nD Cert.PrepRefIdeal.τ).loc Cert.PrepRefIdeal.main_v95) = v4 c
          ∧ r.2.mem ((c.tc : Thread Cert.PrepRefIdeal.nD Cert.PrepRefIdeal.τ).loc Cert.PrepRefIdeal.main_v87) = v5 c
          ∧ r.2.mem ((c.tc : Thread Cert.PrepRefIdeal.nD Cert.PrepRefIdeal.τ).loc Cert.PrepRefIdeal.main_v92) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def Claim : Prop :=
  ∃ (hSample : Cert.Sample.Facts) (hSampleIdeal : Cert.SampleIdeal.Facts) (hSampleRefIdeal : Cert.SampleRefIdeal.Facts) (hFfn : Cert.Ffn.Facts) (hFfnIdeal : Cert.FfnIdeal.Facts) (hFfnRefIdeal : Cert.FfnRefIdeal.Facts) (hPrompt : Cert.Prompt.Facts) (hPromptIdeal : Cert.PromptIdeal.Facts) (hPromptRefIdeal : Cert.PromptRefIdeal.Facts) (hPrep : Cert.Prep.Facts) (hPrepIdeal : Cert.PrepIdeal.Facts) (hPrepRefIdeal : Cert.PrepRefIdeal.Facts),
    quiescent_Sample (hSample := hSample)
    ∧ quiescent_SampleIdeal (hSampleIdeal := hSampleIdeal)
    ∧ quiescent_SampleRefIdeal (hSampleRefIdeal := hSampleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Prep (hPrep := hPrep)
    ∧ quiescent_PrepIdeal (hPrepIdeal := hPrepIdeal)
    ∧ quiescent_PrepRefIdeal (hPrepRefIdeal := hPrepRefIdeal)
    ∧ preserves_Sample_SampleIdeal
    ∧ algebraic_SampleIdeal_SampleRefIdeal (hSampleIdeal := hSampleIdeal) (hSampleRefIdeal := hSampleRefIdeal)
    ∧ preserves_Ffn_FfnIdeal
    ∧ algebraic_FfnIdeal_FfnRefIdeal (hFfnIdeal := hFfnIdeal) (hFfnRefIdeal := hFfnRefIdeal)
    ∧ preserves_Prompt_PromptIdeal
    ∧ algebraic_PromptIdeal_PromptRefIdeal (hPromptIdeal := hPromptIdeal) (hPromptRefIdeal := hPromptRefIdeal)
    ∧ preserves_Prep_PrepIdeal
    ∧ algebraic_PrepIdeal_PrepRefIdeal (hPrepIdeal := hPrepIdeal) (hPrepRefIdeal := hPrepRefIdeal)
-- ==== Sample.lean ====
abbrev S128x1x1024 : Shape := ⟨3, ![128, 1, 1024]⟩
abbrev S128x2048 : Shape := ⟨2, ![128, 2048]⟩
abbrev S1x1024 : Shape := ⟨2, ![1, 1024]⟩
abbrev S1024x4608 : Shape := ⟨2, ![1024, 4608]⟩
abbrev S128x1024 : Shape := ⟨2, ![128, 1024]⟩
abbrev S8x2048 : Shape := ⟨2, ![8, 2048]⟩
abbrev S4x128x1024 : Shape := ⟨3, ![4, 128, 1024]⟩
abbrev S4x1024x128 : Shape := ⟨3, ![4, 1024, 128]⟩
abbrev S1x512 : Shape := ⟨2, ![1, 512]⟩
abbrev S1024x1024 : Shape := ⟨2, ![1024, 1024]⟩
abbrev S512x2048 : Shape := ⟨2, ![512, 2048]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S128x128 : Shape := ⟨2, ![128, 128]⟩
abbrev S1x128x1024 : Shape := ⟨3, ![1, 128, 1024]⟩
abbrev S1x1024x128 : Shape := ⟨3, ![1, 1024, 128]⟩
abbrev S1024x128 : Shape := ⟨2, ![1024, 128]⟩
abbrev S1x128 : Shape := ⟨2, ![1, 128]⟩

abbrev nBuf : Space → Nat
  | .hbm => 21
  | .vmem => 21
  | .smem => 0
  | _ => 0

abbrev bufTy : (tb : Table) → Fin (tcTables nBuf tb) → BufTy
  | .hbm, ⟨0, _⟩ => ⟨S128x1x1024, .f32⟩
  | .hbm, ⟨1, _⟩ => ⟨S128x2048, .f32⟩
  | .hbm, ⟨2, _⟩ => ⟨S128x2048, .f32⟩
  | .hbm, ⟨3, _⟩ => ⟨S1x1024, .f32⟩
  | .hbm, ⟨4, _⟩ => ⟨S1024x4608, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S128x1024, .f32⟩
  | .hbm, ⟨9, _⟩ => ⟨S8x2048, .f32⟩
  | .hbm, ⟨10, _⟩ => ⟨S8x2048, .f32⟩
  | .hbm, ⟨11, _⟩ => ⟨S4x128x1024, .bf16⟩
  | .hbm, ⟨12, _⟩ => ⟨S4x1024x128, .bf16⟩
  | .hbm, ⟨13, _⟩ => ⟨S1x512, .f32⟩
  | .hbm, ⟨14, _⟩ => ⟨S1024x1024, .bf16⟩
  | .hbm, ⟨15, _⟩ => ⟨S512x2048, .bf16⟩
  | .hbm, ⟨16, _⟩ => ⟨S1024x1024, .bf16⟩
  | .hbm, ⟨17, _⟩ => ⟨S128x1024, .f32⟩
  | .hbm, ⟨18, _⟩ => ⟨S128x2048, .f32⟩
  | .hbm, ⟨19, _⟩ => ⟨S128x2048, .f32⟩
  | .hbm, ⟨20, _⟩ => ⟨S128x1x1024, .f32⟩
  | .local _ .vmem, ⟨0, _⟩ => ⟨S128x1x1024, .f32⟩
  | .local _ .vmem, ⟨1, _⟩ => ⟨S128x2048, .f32⟩
  | .local _ .vmem, ⟨2, _⟩ => ⟨S128x2048, .f32⟩
  | .local _ .vmem, ⟨3, _⟩ => ⟨S1x1024, .f32⟩
  | .local _ .vmem, ⟨4, _⟩ => ⟨S1024x4608, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | .local _ .vmem, ⟨9, _⟩ => ⟨S8x2048, .f32⟩
  | .local _ .vmem, ⟨10, _⟩ => ⟨S8x2048, .f32⟩
  | .local _ .vmem, ⟨11, _⟩ => ⟨S4x128x1024, .bf16⟩
  | .local _ .vmem, ⟨12, _⟩ => ⟨S4x1024x128, .bf16⟩
  | .local _ .vmem, ⟨13, _⟩ => ⟨S1x512, .f32⟩
  | .local _ .vmem, ⟨14, _⟩ => ⟨S1024x1024, .bf16⟩
  | .local _ .vmem, ⟨15, _⟩ => ⟨S512x2048, .bf16⟩
  | .local _ .vmem, ⟨16, _⟩ => ⟨S1024x1024, .bf16⟩
  | .local _ .vmem, ⟨17, _⟩ => ⟨S128x1024, .f32⟩
  | .local _ .vmem, ⟨18, _⟩ => ⟨S128x2048, .f32⟩
  | .local _ .vmem, ⟨19, _⟩ => ⟨S128x2048, .f32⟩
  | .local _ .vmem, ⟨20, _⟩ => ⟨S128x1x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S128x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SampleRefIdeal.lean ====
abbrev S128x1x1024 : Shape := ⟨3, ![128, 1, 1024]⟩
abbrev S128x2048 : Shape := ⟨2, ![128, 2048]⟩
abbrev S1x1024 : Shape := ⟨2, ![1, 1024]⟩
abbrev S1024x4608 : Shape := ⟨2, ![1024, 4608]⟩
abbrev S128x1024 : Shape := ⟨2, ![128, 1024]⟩
abbrev S8x2048 : Shape := ⟨2, ![8, 2048]⟩
abbrev S4x128x1024 : Shape := ⟨3, ![4, 128, 1024]⟩
abbrev S4x1024x128 : Shape := ⟨3, ![4, 1024, 128]⟩
abbrev S1x512 : Shape := ⟨2, ![1, 512]⟩
abbrev S1024x1024 : Shape := ⟨2, ![1024, 1024]⟩
abbrev S512x2048 : Shape := ⟨2, ![512, 2048]⟩
abbrev S_ : Shape := ⟨0, ![]⟩
abbrev S128 : Shape := ⟨1, ![128]⟩
abbrev S128x1 : Shape := ⟨2, ![128, 1]⟩
abbrev S128x4608 : Shape := ⟨2, ![128, 4608]⟩
abbrev S128x512 : Shape := ⟨2, ![128, 512]⟩
abbrev S128x4x128 : Shape := ⟨3, ![128, 4, 128]⟩
abbrev S128x4x1024 : Shape := ⟨3, ![128, 4, 1024]⟩
abbrev S128x4x512 : Shape := ⟨3, ![128, 4, 512]⟩
abbrev S1x2048 : Shape := ⟨2, ![1, 2048]⟩
abbrev S4x128x128 : Shape := ⟨3, ![4, 128, 128]⟩

abbrev nBuf : Space → Nat
  | .hbm => 177
  | .vmem => 0
  | .smem => 0
  | _ => 0

abbrev hbmTy0_0 (i : Nat) : BufTy := match i % 128 with
  | 0 => ⟨S128x1x1024, .f32⟩
  | 1 => ⟨S128x2048, .f32⟩
  | 2 => ⟨S128x2048, .f32⟩
  | 3 => ⟨S1x1024, .f32⟩
  | 4 => ⟨S1024x4608, .bf16⟩
  | 5 => ⟨S1x1024, .f32⟩
  | 6 => ⟨S1x1024, .f32⟩
  | 7 => ⟨S1x1024, .f32⟩
  | 8 => ⟨S128x1024, .f32⟩
  | 9 => ⟨S8x2048, .f32⟩
  | 10 => ⟨S8x2048, .f32⟩
  | 11 => ⟨S4x128x1024, .bf16⟩
  | 12 => ⟨S4x1024x128, .bf16⟩
  | 13 => ⟨S1x512, .f32⟩
  | 14 => ⟨S1024x1024, .bf16⟩
  | 15 => ⟨S512x2048, .bf16⟩
  | 16 => ⟨S1024x1024, .bf16⟩
  | 17 => ⟨S128x1024, .f32⟩
  | 18 => ⟨S128x1024, .f32⟩
  | 19 => ⟨S_, .f32⟩
  | 20 => ⟨S128, .f32⟩
  | 21 => ⟨S128x1, .f32⟩
  | 22 => ⟨S_, .f32⟩
  | 23 => ⟨S128x1, .f32⟩
  | 24 => ⟨S128x1, .f32⟩
  | 25 => ⟨S_, .f32⟩
  | 26 => ⟨S128x1, .f32⟩
  | 27 => ⟨S128x1, .f32⟩
  | 28 => ⟨S128x1, .f32⟩
  | 29 => ⟨S128x1024, .f32⟩
  | 30 => ⟨S128x1024, .f32⟩
  | 31 => ⟨S128x1024, .f32⟩
  | 32 => ⟨S128x1024, .f32⟩
  | 33 => ⟨S1024x4608, .f32⟩
  | 34 => ⟨S128x4608, .f32⟩
  | 35 => ⟨S128x1024, .f32⟩
  | 36 => ⟨S128x1024, .f32⟩
  | 37 => ⟨S128x512, .f32⟩
  | 38 => ⟨S128x1024, .f32⟩
  | 39 => ⟨S128x1024, .f32⟩
  | 40 => ⟨S128x1024, .f32⟩
  | 41 => ⟨S128x1024, .f32⟩
  | 42 => ⟨S_, .f32⟩
  | 43 => ⟨S128x1024, .f32⟩
  | 44 => ⟨S128x1024, .f32⟩
  | 45 => ⟨S128x1024, .f32⟩
  | 46 => ⟨S_, .f32⟩
  | 47 => ⟨S128x1024, .f32⟩
  | 48 => ⟨S128x1024, .f32⟩
  | 49 => ⟨S128x1024, .f32⟩
  | 50 => ⟨S_, .f32⟩
  | 51 => ⟨S128x1024, .f32⟩
  | 52 => ⟨S128x1024, .f32⟩
  | 53 => ⟨S_, .f32⟩
  | 54 => ⟨S128x1024, .f32⟩
  | 55 => ⟨S128x1024, .f32⟩
  | 56 => ⟨S128x1024, .f32⟩
  | 57 => ⟨S128x1024, .f32⟩
  | 58 => ⟨S128x1024, .f32⟩
  | 59 => ⟨S_, .f32⟩
  | 60 => ⟨S128x1024, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S128x1024, .f32⟩
  | 67 => ⟨S_, .f32⟩
  | 68 => ⟨S128x1024, .f32⟩
  | 69 => ⟨S128x1024, .f32⟩
  | 70 => ⟨S_, .f32⟩
  | 71 => ⟨S128x1024, .f32⟩
  | 72 => ⟨S128x1024, .f32⟩
  | 73 => ⟨S128x1024, .f32⟩
  | 74 => ⟨S_, .f32⟩
  | 75 => ⟨S128, .f32⟩
  | 76 => ⟨S128x1, .f32⟩
  | 77 => ⟨S_, .f32⟩
  | 78 => ⟨S128x1, .f32⟩
  | 79 => ⟨S128x1, .f32⟩
  | 80 => ⟨S128x1024, .f32⟩
  | 81 => ⟨S128x1024, .f32⟩
  | 82 => ⟨S128x1024, .f32⟩
  | 83 => ⟨S_, .f32⟩
  | 84 => ⟨S128, .f32⟩
  | 85 => ⟨S128x1, .f32⟩
  | 86 => ⟨S_, .f32⟩
  | 87 => ⟨S128x1, .f32⟩
  | 88 => ⟨S128x1, .f32⟩
  | 89 => ⟨S128x1024, .f32⟩
  | 90 => ⟨S128x1024, .f32⟩
  | 91 => ⟨S_, .f32⟩
  | 92 => ⟨S128x1, .f32⟩
  | 93 => ⟨S128x1, .f32⟩
  | 94 => ⟨S128x1, .f32⟩
  | 95 => ⟨S128x1024, .f32⟩
  | 96 => ⟨S128x1024, .f32⟩
  | 97 => ⟨S128x1024, .f32⟩
  | 98 => ⟨S128x1024, .f32⟩
  | 99 => ⟨S128x1024, .f32⟩
  | 100 => ⟨S128x1024, .f32⟩
  | 101 => ⟨S128x1024, .f32⟩
  | 102 => ⟨S128x1024, .f32⟩
  | 103 => ⟨S1x1024, .f32⟩
  | 104 => ⟨S128x1024, .f32⟩
  | 105 => ⟨S128x1024, .f32⟩
  | 106 => ⟨S128x1024, .f32⟩
  | 107 => ⟨S1024x1024, .f32⟩
  | 108 => ⟨S128x1024, .f32⟩
  | 109 => ⟨S128x4x128, .f32⟩
  | 110 => ⟨S4x128x1024, .f32⟩
  | 111 => ⟨S4x1024x128, .f32⟩
  | 112 => ⟨S128x4x1024, .f32⟩
  | 113 => ⟨S128x4x512, .f32⟩
  | 114 => ⟨S128x2048, .f32⟩
  | 115 => ⟨S128x4x512, .f32⟩
  | 116 => ⟨S128x2048, .f32⟩
  | 117 => ⟨S1x2048, .f32⟩
  | 118 => ⟨S1x2048, .f32⟩
  | 119 => ⟨S128x2048, .f32⟩
  | 120 => ⟨S128x2048, .f32⟩
  | 121 => ⟨S128x2048, .f32⟩
  | 122 => ⟨S128x2048, .f32⟩
  | 123 => ⟨S128x2048, .f32⟩
  | 124 => ⟨S128x2048, .f32⟩
  | 125 => ⟨S128x2048, .f32⟩
  | 126 => ⟨S128x2048, .f32⟩
  | 127 => ⟨S128x2048, .f32⟩
  | _ => ⟨S128x1x1024, .f32⟩

abbrev hbmTy0_1 (i : Nat) : BufTy := match i % 128 with
  | 0 => ⟨S128x2048, .f32⟩
  | 1 => ⟨S128x2048, .f32⟩
  | 2 => ⟨S128x2048, .f32⟩
  | 3 => ⟨S128x4x512, .f32⟩
  | 4 => ⟨S128x4x512, .f32⟩
  | 5 => ⟨S128x4x1024, .f32⟩
  | 6 => ⟨S4x1024x128, .f32⟩
  | 7 => ⟨S4x128x128, .f32⟩
  | 8 => ⟨S128x4x128, .f32⟩
  | 9 => ⟨S128x512, .f32⟩
  | 10 => ⟨S128x512, .f32⟩
  | 11 => ⟨S128x512, .f32⟩
  | 12 => ⟨S128x512, .f32⟩
  | 13 => ⟨S512x2048, .f32⟩
  | 14 => ⟨S128x2048, .f32⟩
  | 15 => ⟨S128x1024, .f32⟩
  | 16 => ⟨S128x1024, .f32⟩
  | 17 => ⟨S128x1024, .f32⟩
  | 18 => ⟨S128x1024, .f32⟩
  | 19 => ⟨S_, .f32⟩
  | 20 => ⟨S128x1024, .f32⟩
  | 21 => ⟨S128x1024, .f32⟩
  | 22 => ⟨S_, .f32⟩
  | 23 => ⟨S128x1024, .f32⟩
  | 24 => ⟨S128x1024, .f32⟩
  | 25 => ⟨S128x1024, .f32⟩
  | 26 => ⟨S128x1024, .f32⟩
  | 27 => ⟨S128x1024, .f32⟩
  | 28 => ⟨S_, .f32⟩
  | 29 => ⟨S128x1024, .f32⟩
  | 30 => ⟨S128x1024, .f32⟩
  | 31 => ⟨S_, .f32⟩
  | 32 => ⟨S128x1024, .f32⟩
  | 33 => ⟨S128x1024, .f32⟩
  | 34 => ⟨S128x1024, .f32⟩
  | 35 => ⟨S128x1024, .f32⟩
  | 36 => ⟨S128x1024, .f32⟩
  | 37 => ⟨S_, .f32⟩
  | 38 => ⟨S128x1024, .f32⟩
  | 39 => ⟨S128x1024, .f32⟩
  | 40 => ⟨S_, .f32⟩
  | 41 => ⟨S128x1024, .f32⟩
  | 42 => ⟨S128x1024, .f32⟩
  | 43 => ⟨S128x1024, .f32⟩
  | 44 => ⟨S128x1024, .f32⟩
  | 45 => ⟨S1024x1024, .f32⟩
  | 46 => ⟨S128x1024, .f32⟩
  | 47 => ⟨S128x1024, .f32⟩
  | 48 => ⟨S128x1x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_15 : Ref sig .tc := ⟨.hbm, 147, rfl⟩
abbrev main_v114 : Ref sig .tc := ⟨.hbm, 148, rfl⟩
abbrev main_v115 : Ref sig .tc := ⟨.hbm, 149, rfl⟩
abbrev main_cst_16 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_17 : Ref sig .tc := ⟨.hbm, 156, rfl⟩
abbrev main_v121 : Ref sig .tc := ⟨.hbm, 157, rfl⟩
abbrev main_v122 : Ref sig .tc := ⟨.hbm, 158, rfl⟩
abbrev main_cst_18 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_19 : Ref sig .tc := ⟨.hbm, 165, rfl⟩
abbrev main_v128 : Ref sig .tc := ⟨.hbm, 166, rfl⟩
abbrev main_v129 : Ref sig .tc := ⟨.hbm, 167, rfl⟩
abbrev main_cst_20 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩

abbrev nD : Nat := 1
abbrev τ : Topo := Topo.v7x

variable {F : FTy → Type} [FloatOps F]
-- ==== Ffn.lean ====
abbrev S16384x1024 : Shape := ⟨2, ![16384, 1024]⟩
abbrev S128x1024 : Shape := ⟨2, ![128, 1024]⟩
abbrev S1x1024 : Shape := ⟨2, ![1, 1024]⟩
abbrev S1024x2816 : Shape := ⟨2, ![1024, 2816]⟩
abbrev S2816x1024 : Shape := ⟨2, ![2816, 1024]⟩
abbrev S1x1024x2816 : Shape := ⟨3, ![1, 1024, 2816]⟩
abbrev S1x2816x1024 : Shape := ⟨3, ![1, 2816, 1024]⟩
abbrev S128x1x1024 : Shape := ⟨3, ![128, 1, 1024]⟩
abbrev S512x1024 : Shape := ⟨2, ![512, 1024]⟩
abbrev S8x256x1024 : Shape := ⟨3, ![8, 256, 1024]⟩
abbrev S8 : Shape := ⟨1, ![8]⟩
abbrev S1 : Shape := ⟨1, ![1]⟩
abbrev S_ : Shape := ⟨0, ![]⟩
abbrev S1x256x1024 : Shape := ⟨3, ![1, 256, 1024]⟩
abbrev S1x256x768 : Shape := ⟨3, ![1, 256, 768]⟩
abbrev S256x1024 : Shape := ⟨2, ![256, 1024]⟩
abbrev S256x768 : Shape := ⟨2, ![256, 768]⟩
abbrev S256 : Shape := ⟨1, ![256]⟩
abbrev S256x1 : Shape := ⟨2, ![256, 1]⟩
abbrev S256x2816 : Shape := ⟨2, ![256, 2816]⟩
abbrev S128 : Shape := ⟨1, ![128]⟩
abbrev S128x1 : Shape := ⟨2, ![128, 1]⟩
abbrev S128x2816 : Shape := ⟨2, ![128, 2816]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S16384x1024, .f32⟩
  | .hbm, ⟨11, _⟩ => ⟨S128x1x1024, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S128x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S8x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v83 : BitVec 1 := Scalar.cmpi .eq arg0 c31_i32
  let v84 : BitVec 32 := Scalar.extui v83
  let c0_i32_44 : BitVec 32 := 0#32
  let v85 : BitVec 1 := Scalar.cmpi .ne v84 c0_i32_44
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnRefIdeal.lean ====
abbrev S16384x1024 : Shape := ⟨2, ![16384, 1024]⟩
abbrev S128x1024 : Shape := ⟨2, ![128, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S128 : Shape := ⟨1, ![128]⟩
abbrev S128x1 : Shape := ⟨2, ![128, 1]⟩
abbrev S128x2816 : Shape := ⟨2, ![128, 2816]⟩
abbrev S128x1x1024 : Shape := ⟨3, ![128, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S128x1024, .f32⟩
  | .hbm, ⟨52, _⟩ => ⟨S_, .f32⟩
  | .hbm, ⟨53, _⟩ => ⟨S128, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128x1, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S128x2816, .f32⟩
  | .hbm, ⟨67, _⟩ => ⟨S128x2816, .f32⟩
  | .hbm, ⟨68, _⟩ => ⟨S128x2816, .f32⟩
  | .hbm, ⟨69, _⟩ => ⟨S_, .f32⟩
  | .hbm, ⟨70, _⟩ => ⟨S128x2816, .f32⟩
  | .hbm, ⟨71, _⟩ => ⟨S128x2816, .f32⟩
  | .hbm, ⟨72, _⟩ => ⟨S_, .f32⟩
  | .hbm, ⟨73, _⟩ => ⟨S128x2816, .f32⟩
  | .hbm, ⟨74, _⟩ => ⟨S128x2816, .f32⟩
  | .hbm, ⟨75, _⟩ => ⟨S128x2816, .f32⟩
  | .hbm, ⟨76, _⟩ => ⟨S128x2816, .f32⟩
  | .hbm, ⟨77, _⟩ => ⟨S128x2816, .f32⟩
  | .hbm, ⟨78, _⟩ => ⟨S128x1024, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128, .f32⟩
  | .hbm, ⟨83, _⟩ => ⟨S128x1, .f32⟩
  | .hbm, ⟨84, _⟩ => ⟨S_, .f32⟩
  | .hbm, ⟨85, _⟩ => ⟨S128x1, .f32⟩
  | .hbm, ⟨86, _⟩ => ⟨S128x1, .f32⟩
  | .hbm, ⟨87, _⟩ => ⟨S_, .f32⟩
  | .hbm, ⟨88, _⟩ => ⟨S128x1, .f32⟩
  | .hbm, ⟨89, _⟩ => ⟨S128x1, .f32⟩
  | .hbm, ⟨90, _⟩ => ⟨S128x1, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S128x1024, .f32⟩
  | .hbm, ⟨95, _⟩ => ⟨S128x1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_cst_10 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Prompt.lean ====
abbrev S8x2048x1024 : Shape := ⟨3, ![8, 2048, 1024]⟩
abbrev S1x1024 : Shape := ⟨2, ![1, 1024]⟩
abbrev S1024x4608 : Shape := ⟨2, ![1024, 4608]⟩
abbrev S8x128x128 : Shape := ⟨3, ![8, 128, 128]⟩
abbrev S128x1024 : Shape := ⟨2, ![128, 1024]⟩
abbrev S8x2048 : Shape := ⟨2, ![8, 2048]⟩
abbrev S4x128x1024 : Shape := ⟨3, ![4, 128, 1024]⟩
abbrev S4x1024x128 : Shape := ⟨3, ![4, 1024, 128]⟩
abbrev S1x512 : Shape := ⟨2, ![1, 512]⟩
abbrev S1024x1024 : Shape := ⟨2, ![1024, 1024]⟩
abbrev S512x2048 : Shape := ⟨2, ![512, 2048]⟩
abbrev S8x128x1024 : Shape := ⟨3, ![8, 128, 1024]⟩
abbrev S2x4x128x1024 : Shape := ⟨4, ![2, 4, 128, 1024]⟩
abbrev S1x128x1024 : Shape := ⟨3, ![1, 128, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x128 : Shape := ⟨2, ![128, 128]⟩
abbrev S1x128x128 : Shape := ⟨3, ![1, 128, 128]⟩
abbrev S128x256 : Shape := ⟨2, ![128, 256]⟩
abbrev S1x1x128x1024 : Shape := ⟨4, ![1, 1, 128, 1024]⟩
abbrev S8x512 : Shape := ⟨2, ![8, 512]⟩
abbrev S1x1x8x512 : Shape := ⟨4, ![1, 1, 8, 512]⟩
abbrev S8x1024 : Shape := ⟨2, ![8, 1024]⟩
abbrev S16x1024 : Shape := ⟨2, ![16, 1024]⟩
abbrev S1x1x16x1024 : Shape := ⟨4, ![1, 1, 16, 1024]⟩
abbrev S1x128 : Shape := ⟨2, ![1, 128]⟩
abbrev S1x1024x128 : Shape := ⟨3, ![1, 1024, 128]⟩
abbrev S1024x128 : Shape := ⟨2, ![1024, 128]⟩
abbrev S128x512 : Shape := ⟨2, ![128, 512]⟩
abbrev S256x2048 : Shape := ⟨2, ![256, 2048]⟩

abbrev nBuf : Space → Nat
  | .hbm => 18
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x4608, .bf16⟩
  | .hbm, ⟨3, _⟩ => ⟨S1x1024, .f32⟩
  | .hbm, ⟨4, _⟩ => ⟨S1x1024, .f32⟩
  | .hbm, ⟨5, _⟩ => ⟨S8x128x128, .bf16⟩
  | .hbm, ⟨6, _⟩ => ⟨S128x1024, .f32⟩
  | .hbm, ⟨7, _⟩ => ⟨S8x2048, .f32⟩
  | .hbm, ⟨8, _⟩ => ⟨S8x2048, .f32⟩
  | .hbm, ⟨9, _⟩ => ⟨S4x128x1024, .bf16⟩
  | .hbm, ⟨10, _⟩ => ⟨S4x1024x128, .bf16⟩
  | .hbm, ⟨11, _⟩ => ⟨S1x512, .f32⟩
  | .hbm, ⟨12, _⟩ => ⟨S1024x1024, .bf16⟩
  | .hbm, ⟨13, _⟩ => ⟨S512x2048, .bf16⟩
  | .hbm, ⟨14, _⟩ => ⟨S1024x1024, .bf16⟩
  | .hbm, ⟨15, _⟩ => ⟨S8x2048x1024, .f32⟩
  | .hbm, ⟨16, _⟩ => ⟨S8x2048, .f32⟩
  | .hbm, ⟨17, _⟩ => ⟨S8x2048, .f32⟩
  | .local _ .vmem, ⟨0, _⟩ => ⟨S8x128x1024, .f32⟩
  | .local _ .vmem, ⟨1, _⟩ => ⟨S8x128x1024, .f32⟩
  | .local _ .vmem, ⟨2, _⟩ => ⟨S1x1024, .f32⟩
  | .local _ .vmem, ⟨3, _⟩ => ⟨S1024x4608, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S8x2048, .f32⟩
  | .local _ .vmem, ⟨9, _⟩ => ⟨S8x2048, .f32⟩
  | .local _ .vmem, ⟨10, _⟩ => ⟨S4x128x1024, .bf16⟩
  | .local _ .vmem, ⟨11, _⟩ => ⟨S4x1024x128, .bf16⟩
  | .local _ .vmem, ⟨12, _⟩ => ⟨S1x512, .f32⟩
  | .local _ .vmem, ⟨13, _⟩ => ⟨S1024x1024, .bf16⟩
  | .local _ .vmem, ⟨14, _⟩ => ⟨S512x2048, .bf16⟩
  | .local _ .vmem, ⟨15, _⟩ => ⟨S1024x1024, .bf16⟩
  | .local _ .vmem, ⟨16, _⟩ => ⟨S8x128x1024, .f32⟩
  | .local _ .vmem, ⟨17, _⟩ => ⟨S8x128x1024, .f32⟩
  | .local _ .vmem, ⟨18, _⟩ => ⟨S8x2048, .f32⟩
  | .local _ .vmem, ⟨19, _⟩ => ⟨S8x2048, .f32⟩
  | .local _ .vmem, ⟨20, _⟩ => ⟨S4x1024x128, .f32⟩
  | .local _ .vmem, ⟨21, _⟩ => ⟨S4x1024x128, .f32⟩
  | .local _ .vmem, ⟨22, _⟩ => ⟨S1024x1024, .f32⟩
  | .local _ .vmem, ⟨23, _⟩ => ⟨S1024x1024, .bf16⟩
  | .local _ .vmem, ⟨24, _⟩ => ⟨S2x4x128x1024, .f32⟩
  | .local _ .vmem, ⟨25, _⟩ => ⟨S2x4x128x1024, .bf16⟩
  | .local _ .vmem, ⟨26, _⟩ => ⟨S8x2048, .f32⟩
  | .local _ .vmem, ⟨27, _⟩ => ⟨S8x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg17_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem17_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v9959 : BitVec 1 := Scalar.cmpi .eq arg0 c15_i32
  let v9960 : BitVec 32 := Scalar.extui v9959
  let c0_i32_6957 : BitVec 32 := 0#32
  let v9961 : BitVec 1 := Scalar.cmpi .ne v9960 c0_i32_6957
  v9961

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== PromptRefIdeal.lean ====
abbrev S8x2048x1024 : Shape := ⟨3, ![8, 2048, 1024]⟩
abbrev S1x1024 : Shape := ⟨2, ![1, 1024]⟩
abbrev S1024x4608 : Shape := ⟨2, ![1024, 4608]⟩
abbrev S8x128x128 : Shape := ⟨3, ![8, 128, 128]⟩
abbrev S128x1024 : Shape := ⟨2, ![128, 1024]⟩
abbrev S8x2048 : Shape := ⟨2, ![8, 2048]⟩
abbrev S4x128x1024 : Shape := ⟨3, ![4, 128, 1024]⟩
abbrev S4x1024x128 : Shape := ⟨3, ![4, 1024, 128]⟩
abbrev S1x512 : Shape := ⟨2, ![1, 512]⟩
abbrev S1024x1024 : Shape := ⟨2, ![1024, 1024]⟩
abbrev S512x2048 : Shape := ⟨2, ![512, 2048]⟩
abbrev S_ : Shape := ⟨0, ![]⟩
abbrev S8x2048x1 : Shape := ⟨3, ![8, 2048, 1]⟩
abbrev S1024 : Shape := ⟨1, ![1024]⟩
abbrev S1x1x1024 : Shape := ⟨3, ![1, 1, 1024]⟩
abbrev S1024x512 : Shape := ⟨2, ![1024, 512]⟩
abbrev S8x2048x512 : Shape := ⟨3, ![8, 2048, 512]⟩
abbrev S8x2048x4x128 : Shape := ⟨4, ![8, 2048, 4, 128]⟩
abbrev S4x1024x8x2048 : Shape := ⟨4, ![4, 1024, 8, 2048]⟩
abbrev S2048x8x4x1024 : Shape := ⟨4, ![2048, 8, 4, 1024]⟩
abbrev S1x8x4x1024 : Shape := ⟨4, ![1, 8, 4, 1024]⟩
abbrev S8x4x1024 : Shape := ⟨3, ![8, 4, 1024]⟩
abbrev S8x4x512 : Shape := ⟨3, ![8, 4, 512]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x4608, .bf16⟩
  | .hbm, ⟨3, _⟩ => ⟨S1x1024, .f32⟩
  | .hbm, ⟨4, _⟩ => ⟨S1x1024, .f32⟩
  | .hbm, ⟨5, _⟩ => ⟨S8x128x128, .bf16⟩
  | .hbm, ⟨6, _⟩ => ⟨S128x1024, .f32⟩
  | .hbm, ⟨7, _⟩ => ⟨S8x2048, .f32⟩
  | .hbm, ⟨8, _⟩ => ⟨S8x2048, .f32⟩
  | .hbm, ⟨9, _⟩ => ⟨S4x128x1024, .bf16⟩
  | .hbm, ⟨10, _⟩ => ⟨S4x1024x128, .bf16⟩
  | .hbm, ⟨11, _⟩ => ⟨S1x512, .f32⟩
  | .hbm, ⟨12, _⟩ => ⟨S1024x1024, .bf16⟩
  | .hbm, ⟨13, _⟩ => ⟨S512x2048, .bf16⟩
  | .hbm, ⟨14, _⟩ => ⟨S1024x1024, .bf16⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S1024x512, .bf16⟩
  | .hbm, ⟨33, _⟩ => ⟨S1024x512, .f32⟩
  | .hbm, ⟨34, _⟩ => ⟨S8x2048x512, .f32⟩
  | .hbm, ⟨35, _⟩ => ⟨S8x2048x4x128, .f32⟩
  | .hbm, ⟨36, _⟩ => ⟨S4x128x1024, .f32⟩
  | .hbm, ⟨37, _⟩ => ⟨S4x1024x8x2048, .f32⟩
  | .hbm, ⟨38, _⟩ => ⟨S2048x8x4x1024, .f32⟩
  | .hbm, ⟨39, _⟩ => ⟨S_, .f32⟩
  | .hbm, ⟨40, _⟩ => ⟨S8x2048, .f32⟩
  | .hbm, ⟨41, _⟩ => ⟨S_, .i32⟩
  | .hbm, ⟨42, _⟩ => ⟨S2048x8x4x1024, .f32⟩
  | .hbm, ⟨43, _⟩ => ⟨S8x2048, .f32⟩
  | .hbm, ⟨44, _⟩ => ⟨S8x2048, .f32⟩
  | .hbm, ⟨45, _⟩ => ⟨S_, .i32⟩
  | .hbm, ⟨46, _⟩ => ⟨S8x2048, .f32⟩
  | .hbm, ⟨47, _⟩ => ⟨S8x2048, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x8x4x1024, .f32⟩
  | .hbm, ⟨54, _⟩ => ⟨S8x4x1024, .f32⟩
  | .hbm, ⟨55, _⟩ => ⟨S8x2048, .f32⟩
  | .hbm, ⟨56, _⟩ => ⟨S8x2048, .f32⟩
  | .hbm, ⟨57, _⟩ => ⟨S8x2048, .f32⟩
  | .hbm, ⟨58, _⟩ => ⟨S8x4x512, .f32⟩
  | .hbm, ⟨59, _⟩ => ⟨S8x2048, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S8x2048, .f32⟩
  | .hbm, ⟨64, _⟩ => ⟨S8x4x512, .f32⟩
  | .hbm, ⟨65, _⟩ => ⟨S8x2048, .f32⟩
  | .hbm, ⟨66, _⟩ => ⟨S8x2048, .f32⟩
  | .hbm, ⟨67, _⟩ => ⟨S_, .i32⟩
  | .hbm, ⟨68, _⟩ => ⟨S_, .i32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_c : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v22_3 : Ref sig .tc := ⟨.hbm, 45, rfl⟩
abbrev main_v22_4 : Ref sig .tc := ⟨.hbm, 46, rfl⟩
abbrev main_v22_5 : Ref sig .tc := ⟨.hbm, 47, rfl⟩
abbrev main_while0c_c_8 : Ref sig .tc := ⟨.hbm, 48, rfl⟩
abbrev main_while0c_v23 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_v0 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_c_8 : Ref sig .tc := ⟨.hbm, 67, rfl⟩
abbrev main_while0b_v36 : Ref sig .tc := ⟨.hbm, 68, rfl⟩

abbrev nD : Nat := 1
abbrev τ : Topo := Topo.v7x

variable {F : FTy → Type} [FloatOps F]

abbrev main_while0_count : Scf.Loop 32 := ⟨0#32, 2048#32, 1#32⟩
-- ==== Prep.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S8x128x128 : Shape := ⟨3, ![8, 128, 128]⟩
abbrev S8x128 : Shape := ⟨2, ![8, 128]⟩
abbrev S1x32 : Shape := ⟨2, ![1, 32]⟩
abbrev S2048x16 : Shape := ⟨2, ![2048, 16]⟩
abbrev S512x64 : Shape := ⟨2, ![512, 64]⟩
abbrev S8x2048 : Shape := ⟨2, ![8, 2048]⟩
abbrev S4x128x1024 : Shape := ⟨3, ![4, 128, 1024]⟩
abbrev S4x1024x128 : Shape := ⟨3, ![4, 1024, 128]⟩
abbrev S128x1024 : Shape := ⟨2, ![128, 1024]⟩
abbrev S1x1024 : Shape := ⟨2, ![1, 1024]⟩
abbrev S1x64 : Shape := ⟨2, ![1, 64]⟩
abbrev S1x512 : Shape := ⟨2, ![1, 512]⟩
abbrev S4x512 : Shape := ⟨2, ![4, 512]⟩
abbrev S1x1 : Shape := ⟨2, ![1, 1]⟩
abbrev S16x128 : Shape := ⟨2, ![16, 128]⟩
abbrev S64x512 : Shape := ⟨2, ![64, 512]⟩
abbrev S2048x128 : Shape := ⟨2, ![2048, 128]⟩
abbrev S512x512 : Shape := ⟨2, ![512, 512]⟩
abbrev S512x128 : Shape := ⟨2, ![512, 128]⟩
abbrev S128x512 : Shape := ⟨2, ![128, 512]⟩
abbrev S8x512 : Shape := ⟨2, ![8, 512]⟩
abbrev S1x128x1024 : Shape := ⟨3, ![1, 128, 1024]⟩
abbrev S1024x128 : Shape := ⟨2, ![1024, 128]⟩
abbrev S1x1024x128 : Shape := ⟨3, ![1, 1024, 128]⟩
abbrev S128x128 : Shape := ⟨2, ![128, 128]⟩
abbrev S1x128x128 : Shape := ⟨3, ![1, 128, 128]⟩
abbrev S1x128 : Shape := ⟨2, ![1, 128]⟩
abbrev S1024x8 : Shape := ⟨2, ![1024, 8]⟩

abbrev nBuf : Space → Nat
  | .hbm => 21
  | .vmem => 16
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S8x128x128, .f32⟩
  | .hbm, ⟨8, _⟩ => ⟨S8x128, .f32⟩
  | .hbm, ⟨9, _⟩ => ⟨S1x32, .f32⟩
  | .hbm, ⟨10, _⟩ => ⟨S2048x16, .f32⟩
  | .hbm, ⟨11, _⟩ => ⟨S2048x16, .f32⟩
  | .hbm, ⟨12, _⟩ => ⟨S512x64, .f32⟩
  | .hbm, ⟨13, _⟩ => ⟨S512x64, .f32⟩
  | .hbm, ⟨14, _⟩ => ⟨S8x2048, .f32⟩
  | .hbm, ⟨15, _⟩ => ⟨S8x2048, .f32⟩
  | .hbm, ⟨16, _⟩ => ⟨S4x128x1024, .bf16⟩
  | .hbm, ⟨17, _⟩ => ⟨S4x1024x128, .bf16⟩
  | .hbm, ⟨18, _⟩ => ⟨S8x128x128, .bf16⟩
  | .hbm, ⟨19, _⟩ => ⟨S128x1024, .f32⟩
  | .hbm, ⟨20, _⟩ => ⟨S1x1024, .f32⟩
  | .local _ .vmem, ⟨0, _⟩ => ⟨S32x64, .f32⟩
  | .local _ .vmem, ⟨1, _⟩ => ⟨S32x64, .f32⟩
  | .local _ .vmem, ⟨2, _⟩ => ⟨S1x32, .f32⟩
  | .local _ .vmem, ⟨3, _⟩ => ⟨S2048x16, .f32⟩
  | .local _ .vmem, ⟨4, _⟩ => ⟨S2048x16, .f32⟩
  | .local _ .vmem, ⟨5, _⟩ => ⟨S512x64, .f32⟩
  | .local _ .vmem, ⟨6, _⟩ => ⟨S512x64, .f32⟩
  | .local _ .vmem, ⟨7, _⟩ => ⟨S8x128x128, .f32⟩
  | .local _ .vmem, ⟨8, _⟩ => ⟨S8x128, .f32⟩
  | .local _ .vmem, ⟨9, _⟩ => ⟨S8x2048, .f32⟩
  | .local _ .vmem, ⟨10, _⟩ => ⟨S8x2048, .f32⟩
  | .local _ .vmem, ⟨11, _⟩ => ⟨S4x128x1024, .bf16⟩
  | .local _ .vmem, ⟨12, _⟩ => ⟨S4x1024x128, .bf16⟩
  | .local _ .vmem, ⟨13, _⟩ => ⟨S8x128x128, .bf16⟩
  | .local _ .vmem, ⟨14, _⟩ => ⟨S128x1024, .f32⟩
  | .local _ .vmem, ⟨15, _⟩ => ⟨S1x1024, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== PrepRefIdeal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S8x128x128 : Shape := ⟨3, ![8, 128, 128]⟩
abbrev S8x128 : Shape := ⟨2, ![8, 128]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩
abbrev S8x2048 : Shape := ⟨2, ![8, 2048]⟩
abbrev S4x8x16x1x64 : Shape := ⟨5, ![4, 8, 16, 1, 64]⟩
abbrev S8x8 : Shape := ⟨2, ![8, 8]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S128x128 : Shape := ⟨2, ![128, 128]⟩
abbrev S1x128x128 : Shape := ⟨3, ![1, 128, 128]⟩
abbrev S128x8 : Shape := ⟨2, ![128, 8]⟩
abbrev S128x8x1 : Shape := ⟨3, ![128, 8, 1]⟩
abbrev S128x8x128 : Shape := ⟨3, ![128, 8, 128]⟩
abbrev S128x1024 : Shape := ⟨2, ![128, 1024]⟩
abbrev S8x1x1 : Shape := ⟨3, ![8, 1, 1]⟩
abbrev S8 : Shape := ⟨1, ![8]⟩
abbrev S8x1 : Shape := ⟨2, ![8, 1]⟩
abbrev S1x1024 : Shape := ⟨2, ![1, 1024]⟩

abbrev nBuf : Space → Nat
  | .hbm => 131
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S8x128x128, .f32⟩
  | 8 => ⟨S8x128, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S_, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64x1, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64x1, .f32⟩
  | 41 => ⟨S32x64x16, .f32⟩
  | 42 => ⟨S32x64x16, .f32⟩
  | 43 => ⟨S32x64x16, .f32⟩
  | 44 => ⟨S32x64x16, .f32⟩
  | 45 => ⟨S32x64x16, .f32⟩
  | 46 => ⟨S32x64x16, .f32⟩
  | 47 => ⟨S32x64x16, .f32⟩
  | 48 => ⟨S32x64x16, .f32⟩
  | 49 => ⟨S32x64x16, .f32⟩
  | 50 => ⟨S32x64x16, .f32⟩
  | 51 => ⟨S1x2048, .f32⟩
  | 52 => ⟨S8x2048, .f32⟩
  | 53 => ⟨S1x2048, .f32⟩
  | 54 => ⟨S8x2048, .f32⟩
  | 55 => ⟨S32x16x64, .f32⟩
  | 56 => ⟨S4x8x16x1x64, .f32⟩
  | 57 => ⟨S8x8, .i32⟩
  | 58 => ⟨S8x8, .i32⟩
  | 59 => ⟨S8x8, .i1⟩
  | 60 => ⟨S1x8x1x8x1, .i1⟩
  | 61 => ⟨S_, .f32⟩
  | 62 => ⟨S_, .f32⟩
  | 63 => ⟨S4x8x16x8x64, .i1⟩
  | 64 => ⟨S4x8x16x8x64, .f32⟩
  | 65 => ⟨S4x8x16x8x64, .f32⟩
  | 66 => ⟨S4x8x16x8x64, .f32⟩
  | 67 => ⟨S4x128x512, .f32⟩
  | 68 => ⟨S32x16x64, .f32⟩
  | 69 => ⟨S4x8x16x1x64, .f32⟩
  | 70 => ⟨S8x8, .i32⟩
  | 71 => ⟨S8x8, .i32⟩
  | 72 => ⟨S8x8, .i1⟩
  | 73 => ⟨S1x8x1x8x1, .i1⟩
  | 74 => ⟨S_, .f32⟩
  | 75 => ⟨S_, .f32⟩
  | 76 => ⟨S4x8x16x8x64, .i1⟩
  | 77 => ⟨S4x8x16x8x64, .f32⟩
  | 78 => ⟨S4x8x16x8x64, .f32⟩
  | 79 => ⟨S4x8x16x8x64, .f32⟩
  | 80 => ⟨S4x128x512, .f32⟩
  | 81 => ⟨S4x128x1024, .f32⟩
  | 82 => ⟨S32x64x16, .f32⟩
  | 83 => ⟨S4x8x64x1x16, .f32⟩
  | 84 => ⟨S8x8, .i32⟩
  | 85 => ⟨S8x8, .i32⟩
  | 86 => ⟨S8x8, .i1⟩
  | 87 => ⟨S1x8x1x8x1, .i1⟩
  | 88 => ⟨S_, .f32⟩
  | 89 => ⟨S_, .f32⟩
  | 90 => ⟨S4x8x64x8x16, .i1⟩
  | 91 => ⟨S4x8x64x8x16, .f32⟩
  | 92 => ⟨S4x8x64x8x16, .f32⟩
  | 93 => ⟨S4x8x64x8x16, .f32⟩
  | 94 => ⟨S4x512x128, .f32⟩
  | 95 => ⟨S32x64x16, .f32⟩
  | 96 => ⟨S32x64x16, .f32⟩
  | 97 => ⟨S4x8x64x1x16, .f32⟩
  | 98 => ⟨S8x8, .i32⟩
  | 99 => ⟨S8x8, .i32⟩
  | 100 => ⟨S8x8, .i1⟩
  | 101 => ⟨S1x8x1x8x1, .i1⟩
  | 102 => ⟨S_, .f32⟩
  | 103 => ⟨S_, .f32⟩
  | 104 => ⟨S4x8x64x8x16, .i1⟩
  | 105 => ⟨S4x8x64x8x16, .f32⟩
  | 106 => ⟨S4x8x64x8x16, .f32⟩
  | 107 => ⟨S4x8x64x8x16, .f32⟩
  | 108 => ⟨S4x512x128, .f32⟩
  | 109 => ⟨S4x1024x128, .f32⟩
  | 110 => ⟨S128x128, .i32⟩
  | 111 => ⟨S128x128, .i32⟩
  | 112 => ⟨S128x128, .i1⟩
  | 113 => ⟨S1x128x128, .i1⟩
  | 114 => ⟨S_, .f32⟩
  | 115 => ⟨S_, .f32⟩
  | 116 => ⟨S8x128x128, .i1⟩
  | 117 => ⟨S8x128x128, .f32⟩
  | 118 => ⟨S8x128x128, .f32⟩
  | 119 => ⟨S128x8, .f32⟩
  | 120 => ⟨S128x8x1, .f32⟩
  | 121 => ⟨S128x8x128, .f32⟩
  | 122 => ⟨S128x1024, .f32⟩
  | 123 => ⟨S8x1x1, .f32⟩
  | 124 => ⟨S8, .f32⟩
  | 125 => ⟨S8x1, .f32⟩
  | 126 => ⟨S8x128, .f32⟩
  | 127 => ⟨S1x1024, .f32⟩
  | _ => ⟨S32x64, .f32⟩

abbrev hbmTy0_1 (i : Nat) : BufTy := match i % 128 with
  | 0 => ⟨S4x128x1024, .bf16⟩
  | 1 => ⟨S4x1024x128, .bf16⟩
  | 2 => ⟨S8x128x128, .bf16⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_2 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_3 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_4 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_5 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Proof.Spec.lean ====
/- The layer's row formulas over the extended reals: the norms, the gates and the feed-forward row that both the kernels
   and the references compute, each stated once for rows given as functions of a coordinate. -/
module

public import Idealize.ShloMosaic.Lib.Pointwise

@[expose] public section

noncomputable section

namespace Cert.Layer

open Idealize.ShloMosaic

/-- The mean of a row of 1024 entries. -/
def mean (x : Fin 1024 → EReal) : EReal := Ideal.div (∑ k, x k) (Ideal.ofBits .f32 0x44800000#32)

/-- The root-mean-square norm of a row, scaled by `g`. -/
def rms (x g : Fin 1024 → EReal) (j : Fin 1024) : EReal :=
  x j * Ideal.rsqrt (mean (fun k => x k * x k) + Ideal.ofBits .f32 0x358637BD#32) * g j

/-- The layer norm of a row, scaled by `g` and shifted by `b`. -/
def lnorm (x g b : Fin 1024 → EReal) (j : Fin 1024) : EReal :=
  (x j - mean x) * Ideal.rsqrt (mean (fun k => (x k - mean x) * (x k - mean x)) + Ideal.ofBits .f32 0x358637BD#32) * g j
    + b j

/-- The tanh form of the Gaussian error linear unit. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- A row times a matrix. -/
def mul {n m : Nat} (x : Fin n → EReal) (w : Fin n → Fin m → EReal) (j : Fin m) : EReal := ∑ k, x k * w k j

/-- The gated feed-forward row with its residual. -/
def resid (gffn : Fin 1024 → EReal) (wg wu : Fin 1024 → Fin 2816 → EReal) (wd : Fin 2816 → Fin 1024 → EReal)
    (x : Fin 1024 → EReal) (j : Fin 1024) : EReal :=
  x j + mul (fun n => mul (rms x gffn) wg n * Ideal.logistic (mul (rms x gffn) wg n) * mul (rms x gffn) wu n) wd j

/-- The gated feed-forward row with its residual and the final norm. -/
def ffn (gffn gfin : Fin 1024 → EReal) (wg wu : Fin 1024 → Fin 2816 → EReal) (wd : Fin 2816 → Fin 1024 → EReal)
    (x : Fin 1024 → EReal) : Fin 1024 → EReal := rms (resid gffn wg wu wd x) gfin

/-- The input projection of a row: its norm times the combined input matrix. -/
def proj (x g : Fin 1024 → EReal) (w : Fin 1024 → Fin 4608 → EReal) : Fin 4608 → EReal := mul (rms x g) w

/-- The normalised `v` row of a projected row. -/
def vrow (z : Fin 4608 → EReal) (g b : Fin 1024 → EReal) : Fin 1024 → EReal :=
  lnorm (fun k => gelu (z ⟨1024 + k.val, by omega⟩)) g b

/-- The spatial-gating branch of a projected row, given the spatially mixed row. -/
def branchA (z : Fin 4608 → EReal) (mixed : Fin 1024 → EReal) (wa : Fin 1024 → Fin 1024 → EReal) : Fin 1024 → EReal :=
  mul (fun k => gelu (z ⟨k.val, by omega⟩) * mixed k) wa

/-- The state-space channels of a projected row. -/
def chans (z : Fin 4608 → EReal) (k : Fin 512) : EReal := z ⟨2048 + k.val, by omega⟩

/-- The merge of the two branches: the spatial branch `ya`, the state-space branch `pb` (its two halves the value and
    the gate), the gate logits in the projected row `z`, the output product and the residual `x`. -/
def merge (x : Fin 1024 → EReal) (z : Fin 4608 → EReal) (ya : Fin 1024 → EReal) (pb : Fin 2048 → EReal)
    (wout : Fin 1024 → Fin 1024 → EReal) (j : Fin 1024) : EReal :=
  x j + mul (fun k => Ideal.logistic (z ⟨2560 + k.val, by omega⟩) * ya k + Ideal.logistic (z ⟨3584 + k.val, by omega⟩) *
    (pb ⟨k.val, by omega⟩ * Ideal.logistic (pb ⟨1024 + k.val, by omega⟩))) wout j

/-- Channel `k` of block `q` among the 512 state-space channels. -/
def chan (q : Fin 4) (k : Fin 128) : Fin 512 := ⟨q.val * 128 + k.val, by omega⟩

/-- State `p` of block `q` among the 2048 states. -/
def st (q : Fin 4) (p : Fin 512) : Fin 2048 := ⟨q.val * 512 + p.val, by omega⟩

theorem chan_zero (k : Fin 128) : chan 0 k = ⟨k.val, by omega⟩ := Fin.ext (by simp [chan])

theorem st_zero (p : Fin 512) : st 0 p = ⟨p.val, by omega⟩ := Fin.ext (by simp [st])

theorem chan_divmod (k : Fin 512) : chan ⟨k.val / 128, by omega⟩ ⟨k.val % 128, by omega⟩ = k :=
  Fin.ext (Nat.div_add_mod' k.val 128)

theorem st_divmod (p : Fin 2048) : st ⟨p.val / 512, by omega⟩ ⟨p.val % 512, by omega⟩ = p :=
  Fin.ext (Nat.div_add_mod' p.val 512)

/-- The real half of a block's 1024 output columns. -/
def lo (p : Fin 512) : Fin 1024 := ⟨p.val, by omega⟩

/-- The imaginary half of a block's 1024 output columns. -/
def hi (p : Fin 512) : Fin 1024 := ⟨512 + p.val, by omega⟩

/-- The state input of block `q`: its channels times its input matrix. -/
def input (s : Fin 512 → EReal) (bm : Fin 4 → Fin 128 → Fin 1024 → EReal) (q : Fin 4) (p : Fin 1024) : EReal :=
  ∑ k, s (chan q k) * bm q k p

/-- The read-out of block `q`: the row `[re | im]` of its states times its output matrix, plus the skip term. -/
def readout (hre him : Fin 4 → Fin 512 → EReal) (cm : Fin 4 → Fin 1024 → Fin 128 → EReal) (d s : Fin 512 → EReal)
    (q : Fin 4) (c : Fin 128) : EReal :=
  (∑ p, hre q p * cm q (lo p) c) + (∑ p, him q p * cm q (hi p) c) + d (chan q c) * s (chan q c)

/-- One step of the diagonal complex recurrence, real part. -/
def stepRe (are aim hre him b : EReal) : EReal := are * hre - aim * him + b

/-- One step of the diagonal complex recurrence, imaginary part. -/
def stepIm (are aim hre him b : EReal) : EReal := are * him + aim * hre + b

/-- The recurrence over a sequence of inputs, from zero: the state after the first `l` of them. -/
def scan (are aim : EReal) (u v : ℕ → EReal) : ℕ → EReal × EReal
  | 0 => (0, 0)
  | l + 1 => (stepRe are aim (scan are aim u v l).1 (scan are aim u v l).2 (u l),
      stepIm are aim (scan are aim u v l).1 (scan are aim u v l).2 (v l))

end Cert.Layer

end
-- ==== Proof.SampleKernel.lean ====
/- What one call of the sample-token kernel computes, entry by entry: each payload of its body is read at an index and is
   one of the formulas of `Spec.lean` at that token's row. -/
module

public import proofs.«01_k».proof.Proof.Gen.SampleIdeal.Value
public import proofs.«01_k».proof.Proof.Spec
public import Idealize.ShloMosaic.Lib.Pipeline.ValueKit

@[expose] public section

set_option maxRecDepth 16384

noncomputable section

namespace Cert.SampleMix

open Idealize.ShloMosaic
open Cert.SampleIdeal Cert.SampleIdeal.Gen Cert.Layer

variable (a0 : Vec Ideal S128x1x1024 .f32) (a1 a2 : Vec Ideal S128x2048 .f32) (a3 : Vec Ideal S1x1024 .f32)
  (a4 : Vec Ideal S1024x4608 .bf16) (a5 a6 a7 : Vec Ideal S1x1024 .f32) (a8 : Vec Ideal S128x1024 .f32)
  (a9 a10 : Vec Ideal S8x2048 .f32) (a11 : Vec Ideal S4x128x1024 .bf16) (a12 : Vec Ideal S4x1024x128 .bf16)
  (a13 : Vec Ideal S1x512 .f32) (a14 : Vec Ideal S1024x1024 .bf16) (a15 : Vec Ideal S512x2048 .bf16)
  (a16 : Vec Ideal S1024x1024 .bf16)

/-- A token's projected row. -/
def zrow (i : Fin 128) : Fin 4608 → EReal :=
  proj (fun k => a0 (ix3 i 0 k)) (fun k => a3 (ix2 0 k)) (fun k n => a4 (ix2 k n))

/-- A token's normalised `v` row. -/
def vnew (i : Fin 128) : Fin 1024 → EReal :=
  vrow (zrow a0 a3 a4 i) (fun k => a5 (ix2 0 k)) (fun k => a6 (ix2 0 k))

/-- A token's spatial-gating branch: one position of a chunk, so that the spatial mix is a scale and a shift. -/
def yaRow (i : Fin 128) : Fin 1024 → EReal :=
  branchA (zrow a0 a3 a4 i) (fun k => vnew a0 a3 a4 a5 a6 i k * a7 (ix2 0 k) + a8 (ix2 0 k)) (fun k n => a14 (ix2 k n))

/-- A token's state input in block `q`. -/
def binRow (i : Fin 128) (q : Fin 4) (p : Fin 1024) : EReal :=
  input (chans (zrow a0 a3 a4 i)) (fun q k p => a11 (ix3 q k p)) q p

/-- A token's new state in block `q`, real part. -/
def reBlk (i : Fin 128) (q : Fin 4) (p : Fin 512) : EReal :=
  stepRe (a9 (ix2 0 (st q p))) (a10 (ix2 0 (st q p))) (a1 (ix2 i (st q p))) (a2 (ix2 i (st q p)))
    (binRow a0 a3 a4 a11 i q (lo p))

/-- A token's new state in block `q`, imaginary part. -/
def imBlk (i : Fin 128) (q : Fin 4) (p : Fin 512) : EReal :=
  stepIm (a9 (ix2 0 (st q p))) (a10 (ix2 0 (st q p))) (a1 (ix2 i (st q p))) (a2 (ix2 i (st q p)))
    (binRow a0 a3 a4 a11 i q (hi p))

/-- The normalised row, as the kernel's products read it. -/
theorem hn36 (i : Fin 128) (k : Fin 1024) :
    k0_pay36 (F := Ideal) a0 a1 a2 a3 a4 a5 a6 a7 a8 a9 a10 a11 a12 a13 a14 a15 a16 (ix2 i k) =
      rms (fun k => a0 (ix3 i 0 k)) (fun k => a3 (ix2 0 k)) k := by
  pointwise [k0_pay36, k0_pay3, k0_pay2]; rfl

/-- The state-space channels, as blocks 1 to 3 read them. -/
theorem s39 (i : Fin 128) (k : Fin 512) :
    k0_pay39 (F := Ideal) a0 a1 a2 a3 a4 a5 a6 a7 a8 a9 a10 a11 a12 a13 a14 a15 a16 (ix2 i k) =
      chans (zrow a0 a3 a4 i) k := by
  pointwise [k0_pay39, k0_pay11, hn36]; rfl

/-- The state-space channels, as block 0 reads them. -/
theorem s11 (i : Fin 128) (k : Fin 512) :
    k0_pay11 (F := Ideal) (k0_pay36 a0 a1 a2 a3 a4 a5 a6 a7 a8 a9 a10 a11 a12 a13 a14 a15 a16) (View.ld a4 r0_6) (ix2 i k) =
      chans (zrow a0 a3 a4 i) k := by
  pointwise [k0_pay11, hn36]; rfl

/-- The `u` row after its gate. -/
theorem u4 (i : Fin 128) (k : Fin 1024) :
    k0_pay4 (F := Ideal) a0 a3 (View.ld a4 r0_2) (ix2 i k) = gelu (zrow a0 a3 a4 i ⟨k.val, by omega⟩) := by
  pointwise [k0_pay4, k0_pay3, k0_pay2]; rfl

/-- The normalised `v` row. -/
theorem v7 (i : Fin 128) (k : Fin 1024) :
    k0_pay7 (F := Ideal) (k0_pay37 a0 a1 a2 a3 a4 a5 a6 a7 a8 a9 a10 a11 a12 a13 a14 a15 a16)
      (k0_pay38 a0 a1 a2 a3 a4 a5 a6 a7 a8 a9 a10 a11 a12 a13 a14 a15 a16) a5 a6 (ix2 i k) = vnew a0 a3 a4 a5 a6 i k := by
  have h (k : Fin 1024) : k0_pay37 (F := Ideal) a0 a1 a2 a3 a4 a5 a6 a7 a8 a9 a10 a11 a12 a13 a14 a15 a16 (ix2 i k) =
      zrow a0 a3 a4 i ⟨1024 + k.val, by omega⟩ := by
    pointwise [k0_pay37, k0_pay5, k0_pay3, k0_pay2]; rfl
  have h' (k : Fin 1024) : k0_pay38 (F := Ideal) a0 a1 a2 a3 a4 a5 a6 a7 a8 a9 a10 a11 a12 a13 a14 a15 a16 (ix2 i k) =
      Ideal.ofBits .f32 0x3F4C422A#32 * (zrow a0 a3 a4 i ⟨1024 + k.val, by omega⟩ + Ideal.ofBits .f32 0x3D372713#32 *
        (zrow a0 a3 a4 i ⟨1024 + k.val, by omega⟩ * (zrow a0 a3 a4 i ⟨1024 + k.val, by omega⟩ *
          zrow a0 a3 a4 i ⟨1024 + k.val, by omega⟩))) := by
    pointwise [k0_pay38, k0_pay6, k0_pay5, k0_pay3, k0_pay2]; rfl
  pointwise [k0_pay7, h, h']; rfl

/-- The spatial-gating branch. -/
theorem ya10 (i : Fin 128) (k : Fin 1024) :
    k0_pay10 (F := Ideal) (k0_pay9 (k0_pay4 a0 a3 (View.ld a4 r0_2))
      (k0_pay37 a0 a1 a2 a3 a4 a5 a6 a7 a8 a9 a10 a11 a12 a13 a14 a15 a16)
      (k0_pay38 a0 a1 a2 a3 a4 a5 a6 a7 a8 a9 a10 a11 a12 a13 a14 a15 a16) a5 a6 a7 (View.ld a8 r0_4)) a14 (ix2 i k) =
      yaRow a0 a3 a4 a5 a6 a7 a8 a14 i k := by
  pointwise [k0_pay10, k0_pay9, v7, u4]; rfl

/-- The kernel's last result is the normalised `v` row. -/
theorem v_out (i : Fin 128) (k : Fin 1024) :
    Value.G20 (F := Ideal) a0 a1 a2 a3 a4 a5 a6 a7 a8 a9 a10 a11 a12 a13 a14 a15 a16 (ix3 i 0 k) =
      vnew a0 a3 a4 a5 a6 i k := by
  pointwise [k0_pay8, v7]

/-- The tile a stored piece's index lands in, and its place there. -/
theorem tile_idx {i : Fin 128} {q : Fin 4} {p : Fin 512} {x : S128x512.Idx} (c : Fin 4) (h0 : i.val = (x 0).val)
    (h1 : q.val * 512 + p.val = c.val * 512 + (x 1).val) : q = c ∧ x = ix2 i p := by
  have b1 : (x 1).val < 512 := (x 1).isLt
  refine ⟨Fin.ext (by omega), funext fun a => ?_⟩
  fin_cases a
  · exact Fin.ext h0.symm
  · exact Fin.ext (by show (x 1).val = p.val; omega)

/-- The kernel's second result: the new state, real part. -/
theorem re_out (i : Fin 128) (q : Fin 4) (p : Fin 512) :
    Value.G18 (F := Ideal) a0 a1 a2 a3 a4 a5 a6 a7 a8 a9 a10 a11 a12 a13 a14 a15 a16 (ix2 i (st q p)) =
      reBlk a0 a1 a2 a3 a4 a9 a10 a11 i q p := by
  canon_tiles x h
  · obtain ⟨rfl, rfl⟩ := tile_idx 3 h0 h1
    pointwise [k0_pay33, k0_pay32, k0_pay31, s39]; rfl
  · obtain ⟨rfl, rfl⟩ := tile_idx 2 h0 h1
    pointwise [k0_pay26, k0_pay25, k0_pay24, s39]; rfl
  · obtain ⟨rfl, rfl⟩ := tile_idx 1 h0 h1
    pointwise [k0_pay20, k0_pay19, k0_pay18, s39]; rfl
  · obtain ⟨rfl, rfl⟩ := tile_idx 0 h0 (by simpa [st] using h1)
    pointwise [k0_pay14, k0_pay13, k0_pay12, s11]
    simp only [reBlk, binRow, input, stepRe, st_zero, chan_zero]; rfl

/-- The kernel's third result: the new state, imaginary part. -/
theorem im_out (i : Fin 128) (q : Fin 4) (p : Fin 512) :
    Value.G19 (F := Ideal) a0 a1 a2 a3 a4 a5 a6 a7 a8 a9 a10 a11 a12 a13 a14 a15 a16 (ix2 i (st q p)) =
      imBlk a0 a1 a2 a3 a4 a9 a10 a11 i q p := by
  canon_tiles x h
  · obtain ⟨rfl, rfl⟩ := tile_idx 3 h0 h1
    pointwise [k0_pay34, k0_pay32, k0_pay31, s39]; rfl
  · obtain ⟨rfl, rfl⟩ := tile_idx 2 h0 h1
    pointwise [k0_pay27, k0_pay25, k0_pay24, s39]; rfl
  · obtain ⟨rfl, rfl⟩ := tile_idx 1 h0 h1
    pointwise [k0_pay21, k0_pay19, k0_pay18, s39]; rfl
  · obtain ⟨rfl, rfl⟩ := tile_idx 0 h0 (by simpa [st] using h1)
    pointwise [k0_pay15, k0_pay13, k0_pay12, s11]
    simp only [imBlk, binRow, input, stepIm, st_zero, chan_zero]; rfl

/-- A token's read-out in block `q`. -/
def ysRow (i : Fin 128) (q : Fin 4) (c : Fin 128) : EReal :=
  readout (fun q p => reBlk a0 a1 a2 a3 a4 a9 a10 a11 i q p) (fun q p => imBlk a0 a1 a2 a3 a4 a9 a10 a11 i q p)
    (fun q p c => a12 (ix3 q p c)) (fun k => a13 (ix2 0 k)) (chans (zrow a0 a3 a4 i)) q c

/-- The read-out of block 0. -/
theorem ys0 (i : Fin 128) (c : Fin 128) :
    k0_pay17 (F := Ideal) (k0_pay12 (k0_pay36 a0 a1 a2 a3 a4 a5 a6 a7 a8 a9 a10 a11 a12 a13 a14 a15 a16) (View.ld a4 r0_6)) (k0_pay16 (k0_pay36 a0 a1 a2 a3 a4 a5 a6 a7 a8 a9 a10 a11 a12 a13 a14 a15 a16) (View.ld a4 r0_6) (View.ld a11 r0_7) (View.ld a9 r0_8) (View.ld a10 r0_8) (View.ld a1 r0_9) (View.ld a2 r0_9) (View.ld a12 r0_10)) (View.ld a13 r0_11) (ix2 i c) = ysRow a0 a1 a2 a3 a4 a9 a10 a11 a12 a13 i 0 c := by
  pointwise [k0_pay17, k0_pay16, k0_pay15, k0_pay14, k0_pay13, k0_pay12, s11]
  simp only [ysRow, readout, reBlk, imBlk, binRow, input, stepRe, stepIm, st_zero, chan_zero]; rfl

/-- The read-out of block 1. -/
theorem ys1 (i : Fin 128) (c : Fin 128) :
    k0_pay23 (F := Ideal) (k0_pay18 (k0_pay39 a0 a1 a2 a3 a4 a5 a6 a7 a8 a9 a10 a11 a12 a13 a14 a15 a16)) (k0_pay22 (k0_pay39 a0 a1 a2 a3 a4 a5 a6 a7 a8 a9 a10 a11 a12 a13 a14 a15 a16) (View.ld a11 r0_12) (View.ld a9 r0_13) (View.ld a10 r0_13) (View.ld a1 r0_14) (View.ld a2 r0_14) (View.ld a12 r0_15)) (View.ld a13 r0_16) (ix2 i c) = ysRow a0 a1 a2 a3 a4 a9 a10 a11 a12 a13 i 1 c := by
  pointwise [k0_pay23, k0_pay22, k0_pay21, k0_pay20, k0_pay19, k0_pay18, s39]; rfl

/-- The read-out of block 2. -/
theorem ys2 (i : Fin 128) (c : Fin 128) :
    k0_pay30 (F := Ideal) (k0_pay24 (k0_pay39 a0 a1 a2 a3 a4 a5 a6 a7 a8 a9 a10 a11 a12 a13 a14 a15 a16)) (k0_pay28 (k0_pay39 a0 a1 a2 a3 a4 a5 a6 a7 a8 a9 a10 a11 a12 a13 a14 a15 a16) (View.ld a11 r0_17) (View.ld a9 r0_18) (View.ld a10 r0_18) (View.ld a1 r0_19) (View.ld a2 r0_19) (View.ld a12 r0_20)) (k0_pay29 (View.ld a13 r0_21)) (ix2 i c) = ysRow a0 a1 a2 a3 a4 a9 a10 a11 a12 a13 i 2 c := by
  pointwise [k0_pay30, k0_pay29, k0_pay28, k0_pay27, k0_pay26, k0_pay25, k0_pay24, s39]; rfl

/-- The read-out of block 3. -/
theorem ys3 (i : Fin 128) (c : Fin 128) :
    k0_pay35 (F := Ideal) (k0_pay39 a0 a1 a2 a3 a4 a5 a6 a7 a8 a9 a10 a11 a12 a13 a14 a15 a16) (View.ld a11 r0_22) (View.ld a9 r0_23) (View.ld a10 r0_23) (View.ld a1 r0_24) (View.ld a2 r0_24) (View.ld a12 r0_25) (View.ld a13 r0_26) (ix2 i c) = ysRow a0 a1 a2 a3 a4 a9 a10 a11 a12 a13 i 3 c := by
  pointwise [k0_pay35, k0_pay34, k0_pay33, k0_pay32, k0_pay31, s39]; rfl

/-- Four blocks of 128 channels side by side, read at a channel. -/
theorem cat4 (f : Fin 4 → Fin 128 → EReal) (k : Fin 512) :
    (if h : k.val < 128 then f 0 ⟨k.val, h⟩ else if h : k.val - 128 < 128 then f 1 ⟨k.val - 128, h⟩ else
      if h : k.val - 128 - 128 < 128 then f 2 ⟨k.val - 128 - 128, h⟩ else f 3 ⟨k.val - 128 - 128 - 128, by omega⟩) =
      f ⟨k.val / 128, by omega⟩ ⟨k.val % 128, by omega⟩ := by
  split_ifs with h1 h2 h3
  all_goals congr 1
  all_goals first | (congr 1; omega) | skip
  all_goals first | (refine Fin.ext ?_; show (_ : Nat) = _; simp only []; omega) | skip

/-- The kernel's first result: the residual row after the merge. -/
theorem x_out (i : Fin 128) (j : Fin 1024) :
    Value.G17 (F := Ideal) a0 a1 a2 a3 a4 a5 a6 a7 a8 a9 a10 a11 a12 a13 a14 a15 a16 (ix2 i j) =
      merge (fun k => a0 (ix3 i 0 k)) (zrow a0 a3 a4 i) (yaRow a0 a3 a4 a5 a6 a7 a8 a14 i)
        (mul (fun k => ysRow a0 a1 a2 a3 a4 a9 a10 a11 a12 a13 i ⟨k.val / 128, by omega⟩ ⟨k.val % 128, by omega⟩)
          (fun k n => a15 (ix2 k n))) (fun k n => a16 (ix2 k n)) j := by
  pointwise [k0_pay1, k0_pay2, hn36, ya10, ys0, ys1, ys2, ys3]
  simp only [cat4]
  rfl

end Cert.SampleMix

end
-- ==== Proof.SampleRef.lean ====
/- What the reference of the sample-token kernel computes, entry by entry, by the same formulas; and the claim: the two
   programs' results are equal over the extended reals. -/
module

public import proofs.«01_k».proof.Defs
public import proofs.«01_k».proof.Proof.Gen.SampleRefIdeal.Read
public import proofs.«01_k».proof.Proof.SampleKernel

@[expose] public section

set_option maxRecDepth 16384

noncomputable section

namespace Cert.SampleMix

open Idealize.ShloMosaic Idealize.SL.Sem
open Cert.SampleRefIdeal Cert.SampleRefIdeal.Read Cert.Layer

variable (a0 : Vec Ideal S128x1x1024 .f32) (a1 a2 : Vec Ideal S128x2048 .f32) (a3 : Vec Ideal S1x1024 .f32)
  (a4 : Vec Ideal S1024x4608 .bf16) (a5 a6 a7 : Vec Ideal S1x1024 .f32) (a8 : Vec Ideal S128x1024 .f32)
  (a9 a10 : Vec Ideal S8x2048 .f32) (a11 : Vec Ideal S4x128x1024 .bf16) (a12 : Vec Ideal S4x1024x128 .bf16)
  (a13 : Vec Ideal S1x512 .f32) (a14 : Vec Ideal S1024x1024 .bf16) (a15 : Vec Ideal S512x2048 .bf16)
  (a16 : Vec Ideal S1024x1024 .bf16)

/-- The normalised row. -/
theorem r12 (i : Fin 128) (k : Fin 1024) :
    val_main_v12 (F := Ideal) a0 a3 (ix2 i k) = rms (fun k => a0 (ix3 i 0 k)) (fun k => a3 (ix2 0 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The projected row. -/
theorem r14 (i : Fin 128) (k : Fin 4608) : val_main_v14 (F := Ideal) a0 a3 a4 (ix2 i k) = zrow a0 a3 a4 i k := by
  pointwise [val_main_v14, val_main_v13, r12]; rfl

/-- The `u` row after its gate. -/
theorem r32 (i : Fin 128) (k : Fin 1024) :
    val_main_v32 (F := Ideal) a0 a3 a4 (ix2 i k) = gelu (zrow a0 a3 a4 i ⟨k.val, by omega⟩) := by
  pointwise [val_main_v32, val_main_v31, val_main_v30, val_main_v29, val_main_v28, val_main_v27, val_main_v26, val_main_v25,
    val_main_v24, val_main_v23, val_main_v22, val_main_v21, val_main_v20, val_main_v15, val_main_cst_2, val_main_cst_3,
    val_main_cst_4, val_main_cst_5, r14]
  rw [gelu, mul_comm (_ * _) (zrow a0 a3 a4 i _)]

/-- The `v` row after its gate. -/
theorem r45 (i : Fin 128) (k : Fin 1024) :
    val_main_v45 (F := Ideal) a0 a3 a4 (ix2 i k) = gelu (zrow a0 a3 a4 i ⟨1024 + k.val, by omega⟩) := by
  pointwise [val_main_v45, val_main_v44, val_main_v43, val_main_v42, val_main_v41, val_main_v40, val_main_v39,
    val_main_v38, val_main_v37, val_main_v36, val_main_v35, val_main_v34, val_main_v33, val_main_v16, val_main_cst_6,
    val_main_cst_7, val_main_cst_8, val_main_cst_9, r14]
  rw [gelu, mul_comm (_ * _) (zrow a0 a3 a4 i _)]

/-- The normalised `v` row. -/
theorem r67 (i : Fin 128) (k : Fin 1024) :
    val_main_v67 (F := Ideal) a0 a3 a4 a5 a6 (ix2 i k) = vnew a0 a3 a4 a5 a6 i k := by
  pointwise [val_main_v67, val_main_v66, val_main_v65, val_main_v64, val_main_v63, val_main_v62, val_main_v61, val_main_v60,
    val_main_v59, val_main_v58, val_main_v57, val_main_v56, val_main_v55, val_main_v54, val_main_v53, val_main_v52,
    val_main_v51, val_main_v50, val_main_v49, val_main_v48, val_main_v47, val_main_v46, val_main_cst_10, val_main_cst_11,
    val_main_cst_12, val_main_cst_13, val_main_cst_14, r45]
  rfl

/-- The spatial-gating branch. -/
theorem r75 (i : Fin 128) (k : Fin 1024) :
    val_main_v75 (F := Ideal) a0 a3 a4 a5 a6 a7 a8 a14 (ix2 i k) = yaRow a0 a3 a4 a5 a6 a7 a8 a14 i k := by
  pointwise [val_main_v75, val_main_v74, val_main_v73, val_main_v72, val_main_v71, val_main_v70, val_main_v69, val_main_v68,
    r32, r67]
  rfl

/-- The state input, block by block. -/
theorem r79 (i : Fin 128) (q : Fin 4) (p : Fin 1024) :
    val_main_v79 (F := Ideal) a0 a3 a4 a11 (ix3 i q p) = binRow a0 a3 a4 a11 i q p := by
  pointwise [val_main_v79, val_main_v78, val_main_v77, val_main_v76, val_main_v17, r14]
  exact Finset.sum_congr rfl fun x _ => mul_comm _ _

/-- The state input's real half, flattened. -/
theorem r81 (i : Fin 128) (q : Fin 4) (p : Fin 512) :
    val_main_v81 (F := Ideal) a0 a3 a4 a11 (ix2 i (st q p)) = binRow a0 a3 a4 a11 i q (lo p) := by
  pointwise [val_main_v81, val_main_v80, r79, st, lo]

/-- The state input's imaginary half, flattened. -/
theorem r83 (i : Fin 128) (q : Fin 4) (p : Fin 512) :
    val_main_v83 (F := Ideal) a0 a3 a4 a11 (ix2 i (st q p)) = binRow a0 a3 a4 a11 i q (hi p) := by
  pointwise [val_main_v83, val_main_v82, r79, st, hi]

/-- The new state, real part. -/
theorem r91 (i : Fin 128) (q : Fin 4) (p : Fin 512) :
    val_main_v91 (F := Ideal) a0 a1 a2 a3 a4 a9 a10 a11 (ix2 i (st q p)) = reBlk a0 a1 a2 a3 a4 a9 a10 a11 i q p := by
  pointwise [val_main_v91, val_main_v90, val_main_v89, val_main_v88, val_main_v87, val_main_v86, val_main_v85, val_main_v84, r81]
  rfl

/-- The new state, imaginary part. -/
theorem r97 (i : Fin 128) (q : Fin 4) (p : Fin 512) :
    val_main_v97 (F := Ideal) a0 a1 a2 a3 a4 a9 a10 a11 (ix2 i (st q p)) = imBlk a0 a1 a2 a3 a4 a9 a10 a11 i q p := by
  pointwise [val_main_v97, val_main_v96, val_main_v95, val_main_v94, val_main_v93, val_main_v92, val_main_v85, val_main_v84, r83]
  rfl

/-- The new state by blocks, real part. -/
theorem r98 (i : Fin 128) (q : Fin 4) (p : Fin 512) :
    val_main_v98 (F := Ideal) a0 a1 a2 a3 a4 a9 a10 a11 (ix3 i q p) = reBlk a0 a1 a2 a3 a4 a9 a10 a11 i q p := by
  rw [← r91]
  pointwise [val_main_v98, st]

/-- The new state by blocks, imaginary part. -/
theorem r99 (i : Fin 128) (q : Fin 4) (p : Fin 512) :
    val_main_v99 (F := Ideal) a0 a1 a2 a3 a4 a9 a10 a11 (ix3 i q p) = imBlk a0 a1 a2 a3 a4 a9 a10 a11 i q p := by
  rw [← r97]
  pointwise [val_main_v99, st]

/-- The product with the output matrices. -/
theorem r103 (i : Fin 128) (q : Fin 4) (c : Fin 128) :
    val_main_v103 (F := Ideal) a0 a1 a2 a3 a4 a9 a10 a11 a12 (ix3 i q c) =
      (∑ p, reBlk a0 a1 a2 a3 a4 a9 a10 a11 i q p * a12 (ix3 q (lo p) c)) + (∑ p, imBlk a0 a1 a2 a3 a4 a9 a10 a11 i q p * a12 (ix3 q (hi p) c)) := by
  pointwise [val_main_v103, val_main_v102, val_main_v101, val_main_v100, r98, r99]
  congr 1 <;> exact Finset.sum_congr rfl fun p _ => mul_comm _ _

/-- The read-out of every channel. -/
theorem r107 (i : Fin 128) (k : Fin 512) :
    val_main_v107 (F := Ideal) a0 a1 a2 a3 a4 a9 a10 a11 a12 a13 (ix2 i k) =
      ysRow a0 a1 a2 a3 a4 a9 a10 a11 a12 a13 i ⟨k.val / 128, by omega⟩ ⟨k.val % 128, by omega⟩ := by
  pointwise [val_main_v107, val_main_v106, val_main_v105, val_main_v104, val_main_v17, r103, r14]
  simp only [ysRow, readout, chan_divmod]; rfl

/-- The residual row after the merge. -/
theorem r136 (i : Fin 128) (j : Fin 1024) :
    val_main_v136 (F := Ideal) a0 a1 a2 a3 a4 a5 a6 a7 a8 a9 a10 a11 a12 a13 a14 a15 a16 (ix2 i j) =
      merge (fun k => a0 (ix3 i 0 k)) (zrow a0 a3 a4 i) (yaRow a0 a3 a4 a5 a6 a7 a8 a14 i)
        (mul (fun k => ysRow a0 a1 a2 a3 a4 a9 a10 a11 a12 a13 i ⟨k.val / 128, by omega⟩ ⟨k.val % 128, by omega⟩)
          (fun k n => a15 (ix2 k n))) (fun k n => a16 (ix2 k n)) j := by
  pointwise [val_main_v136, val_main_v135, val_main_v134, val_main_v133, val_main_v132, val_main_v131, val_main_v130,
    val_main_v129, val_main_v128, val_main_v127, val_main_v126, val_main_v125, val_main_v124, val_main_v123, val_main_v122,
    val_main_v121, val_main_v120, val_main_v119, val_main_v118, val_main_v117, val_main_v116, val_main_v115, val_main_v114,
    val_main_v113, val_main_v112, val_main_v111, val_main_v110, val_main_v109, val_main_v108, val_main_v19, val_main_v18,
    val_main_v0, val_main_cst_15, val_main_cst_16, val_main_cst_17, val_main_cst_18, val_main_cst_19, val_main_cst_20,
    r107, r75, r14]
  rfl

/-- The first results agree. -/
theorem x_tie : Cert.SampleIdeal.Value.G17 (F := Ideal) a0 a1 a2 a3 a4 a5 a6 a7 a8 a9 a10 a11 a12 a13 a14 a15 a16 =
    val_main_v136 (F := Ideal) a0 a1 a2 a3 a4 a5 a6 a7 a8 a9 a10 a11 a12 a13 a14 a15 a16 := by
  funext j; idx_vars j
  rw [x_out, r136]

/-- The second results agree. -/
theorem re_tie : Cert.SampleIdeal.Value.G18 (F := Ideal) a0 a1 a2 a3 a4 a5 a6 a7 a8 a9 a10 a11 a12 a13 a14 a15 a16 =
    val_main_v91 (F := Ideal) a0 a1 a2 a3 a4 a9 a10 a11 := by
  funext j; idx_vars j
  rw [← st_divmod j1, re_out, r91]

/-- The third results agree. -/
theorem im_tie : Cert.SampleIdeal.Value.G19 (F := Ideal) a0 a1 a2 a3 a4 a5 a6 a7 a8 a9 a10 a11 a12 a13 a14 a15 a16 =
    val_main_v97 (F := Ideal) a0 a1 a2 a3 a4 a9 a10 a11 := by
  funext j; idx_vars j
  rw [← st_divmod j1, im_out, r97]

/-- The fourth results agree. -/
theorem v_tie : Cert.SampleIdeal.Value.G20 (F := Ideal) a0 a1 a2 a3 a4 a5 a6 a7 a8 a9 a10 a11 a12 a13 a14 a15 a16 =
    val_main_v137 (F := Ideal) a0 a3 a4 a5 a6 := by
  funext j; idx_vars j
  obtain rfl : j1 = 0 := Subsingleton.elim _ _
  rw [v_out]
  pointwise [val_main_v137, r67]

/-- The reference runs, leaves its arguments as they were, and ends with every counter at zero (it has none). -/
theorem frameRef : Cert.quiescent_SampleRefIdeal := fun m g _ =>
  (θ_run _ _ _).mono (fun r h => ⟨fun c => (h c).2.2.2.2, sem_eq_zero_of_no_sems (by decide) r.2⟩)
    (Cert.SampleRefIdeal.Value.run m g)

/-- THE CLAIM: from memories that agree on the arguments, the idealized kernel and the idealized reference end with
    equal results. -/
theorem algebraic : Cert.algebraic_SampleIdeal_SampleRefIdeal (hSampleIdeal := Cert.SampleIdeal.Gen.facts)
    (hSampleRefIdeal := Cert.SampleRefIdeal.Gen.facts) := by
  intro m g m' g' _ hagree
  refine ⟨_, _, _, _, Cert.SampleIdeal.Value.run m g, ?_⟩
  refine (θ_run _ _ _).mono (fun r h c => ?_) (Cert.SampleRefIdeal.Value.run m' g')
  obtain ⟨e0, e1, e2, e3, e4, e5, e6, e7, e8, e9, e10, e11, e12, e13, e14, e15, e16⟩ := hagree c
  obtain ⟨h0, h1, h2, h3, hk⟩ := h c
  refine ⟨h0.trans ?_, h1.trans ?_, h2.trans ?_, h3.trans ?_, hk⟩
  · rw [val_main_v136_eq, e0, e1, e2, e3, e4, e5, e6, e7, e8, e9, e10, e11, e12, e13, e14, e15, e16, x_tie]
  · rw [val_main_v91_eq, e0, e1, e2, e3, e4, e9, e10, e11, re_tie]
  · rw [val_main_v97_eq, e0, e1, e2, e3, e4, e9, e10, e11, im_tie]
  · rw [val_main_v137_eq, e0, e3, e4, e5, e6, v_tie]

end Cert.SampleMix

end
-- ==== Proof.FfnKernel.lean ====
/- What the feed-forward kernel leaves in its results: every row is the formula of `Spec.lean` at that row. The weights are
   copied into the scratch memory at the first grid point and read there by every later one. -/
module

public import proofs.«01_k».proof.Proof.Gen.FfnIdeal.Value
public import proofs.«01_k».proof.Proof.Spec
public import Idealize.ShloMosaic.Lib.Pipeline.ValueKit
public import Idealize.ShloMosaic.Lib.Pipeline.ReadBack

@[expose] public section

set_option maxRecDepth 16384

noncomputable section

namespace Cert.FfnMix

open Idealize.ShloMosaic Idealize.SL.Sem
open Cert.FfnIdeal Cert.FfnIdeal.Gen Cert.Layer

variable (m : (ℓ : Loc nD τ sig) → Buf (Elt Ideal) ℓ)

/-- A load of part of the piece stored last reads that piece. -/
theorem readCov_staged {κ : Kind} {sp : Space} {s : Shape} {e : EltTy} {Val : EltTy → Type} [∀ e, Nonempty (Val e)]
    (v : View sig κ sp s e) (r : Rect s) (w : r.shape.Idx → Val e)
    (L : List (View.Piece Val s e)) (lr : LoadRect r.shape) (h : ∀ a, r.stride a = 1) :
    v.readCov (⟨r, w⟩ :: L) (r.withinL lr h) = fun j : lr.shape.Idx => w (lr.idx j) := by
  rw [View.readCov_eq_canon']
  funext (j : lr.shape.Idx)
  exact (congrArg (View.canon (⟨r, w⟩ :: L)) (Rect.idx_withinL r lr h j)).trans (View.canon_cons_emb r w L _)

/-- A load of the whole of a buffer reads what its pieces leave in it. -/
theorem readCov_all {κ : Kind} {sp : Space} {s : Shape} {e : EltTy} {Val : EltTy → Type} [∀ e, Nonempty (Val e)]
    (v : View sig κ sp s e)
    {off : Fin s.rank → ℕ} (inb : ∀ a, off a + s.size a ≤ s.size a) (L : List (View.Piece Val s e)) (h : ∀ a, off a = 0) :
    v.readCov L (Rect.unit off (no_index s.size) inb).toLoadRect = View.canon L := by
  rw [View.readCov_eq_canon']
  funext j
  refine congrArg (View.canon L) (funext fun a => Fin.ext ?_)
  show off a + 1 * (j a).val = (j a).val
  rw [h a]; omega

/-- A copied block of an HBM array, read at an index of the block. -/
theorem landed {b : Ref sig .tc} {off size : Fin b.ty.shape.rank → ℕ} {inb : ∀ a, off a + size a ≤ b.ty.shape.size a}
    (A : b.ty.Contents (Elt Ideal))
    (x : (Rect.unit off size inb).shape.Idx) (i : b.ty.shape.Idx) (h : ∀ a, (i a).val = off a + (x a).val) :
    ReadAs.same.apply (View.read (Elt Ideal) ((View.whole b).slice (Rect.unit off size inb)) A) x = A i := by
  refine congrArg A (funext fun a => Fin.ext ?_)
  rw [h a]
  exact congrArg (off a + ·) (one_mul _)

/-- An inner point leaves the held weights as they were. -/
theorem held_B (c : Dev nD) (t : Fin cfg0.N) (h0 : ¬t.val % 32 = 0) (h1 : ¬t.val % 32 = 31) :
    (outsAt0 m c t.val t.isLt).2.2 = (outsAt0 m c (t.val - 1) (Nat.lt_of_le_of_lt (Nat.sub_le _ _) t.isLt)).2.2 := by
  rw [outsAt0_B m c t h0 h1]
  rfl

/-- So does the last point. -/
theorem held_C (c : Dev nD) (t : Fin cfg0.N) (h0 : ¬t.val % 32 = 0) (h1 : t.val % 32 = 31) :
    (outsAt0 m c t.val t.isLt).2.2 = (outsAt0 m c (t.val - 1) (Nat.lt_of_le_of_lt (Nat.sub_le _ _) t.isLt)).2.2 := by
  rw [outsAt0_C m c t h0 h1]
  rfl

/-- The lower half of a block, entry by entry. -/
theorem rows_lo (X : Vec Ideal S256x1024 .f32) (g gf : Vec Ideal S1x1024 .f32) (wg wu : Vec Ideal S1024x2816 .bf16)
    (wd : Vec Ideal S2816x1024 .bf16)
    (i : Fin 256) (j : Fin 1024) :
    k0_pay51 (F := Ideal) (k0_pay49 X g wg wu wd) gf (k0_pay50 X g wg wu wd) (Ideal.ofBits .f32 0x358637BD#32) (ix2 i j) =
      ffn (fun k => g (ix2 0 k)) (fun k => gf (ix2 0 k)) (fun k n => wg (ix2 k n)) (fun k n => wu (ix2 k n))
          (fun n k => wd (ix2 n k))
        (fun k => X (ix2 i k)) j := by
  pointwise [k0_pay51, k0_pay49, k0_pay50]
  rfl

/-- The upper half of a block, entry by entry. -/
theorem rows_hi (X : Vec Ideal S256x1024 .f32) (g gf : Vec Ideal S1x1024 .f32) (wg wu : Vec Ideal S1024x2816 .bf16)
    (wd : Vec Ideal S2816x1024 .bf16)
    (i : Fin 256) (j : Fin 1024) :
    k0_pay1 (F := Ideal) (k0_pay52 X g wg wu wd) gf (k0_pay53 X g wg wu wd) (ix2 i j) =
      ffn (fun k => g (ix2 0 k)) (fun k => gf (ix2 0 k)) (fun k n => wg (ix2 k n)) (fun k n => wu (ix2 k n))
          (fun n k => wd (ix2 n k))
        (fun k => X (ix2 i k)) j := by
  pointwise [k0_pay1, k0_pay52, k0_pay53]
  rfl

/-- The sample rows, entry by entry. -/
theorem rows_s (X : Vec Ideal S128x1024 .f32) (g gf : Vec Ideal S1x1024 .f32) (wg wu : Vec Ideal S1024x2816 .bf16)
    (wd : Vec Ideal S2816x1024 .bf16)
    (i : Fin 128) (j : Fin 1024) :
    k0_pay2 (F := Ideal) (k0_pay47 X g wg wu wd gf) (ix3 i 0 j) =
      ffn (fun k => g (ix2 0 k)) (fun k => gf (ix2 0 k)) (fun k n => wg (ix2 k n)) (fun k n => wu (ix2 k n))
          (fun n k => wd (ix2 n k))
        (fun k => X (ix2 i k)) j := by
  pointwise [k0_pay2, k0_pay47]
  rfl

/-- What a grid point leaves in its block of rows: the two halves, one after the other. -/
def rows (X : Vec Ideal S512x1024 .f32) (g gf : Vec Ideal S1x1024 .f32) (wg wu : Vec Ideal S1024x2816 .bf16)
    (wd : Vec Ideal S2816x1024 .bf16) : Vec Ideal S512x1024 .f32 :=
  View.canon (Val := Elt Ideal) (e := .f32)
    [⟨Rect.unit ![256, 0] ![256, 1024] inb_S512x1024_S256x1024_256_0,
      k0_pay1 (k0_pay52 (View.ld X (Rect.unit ![256, 0] ![256, 1024] inb_S512x1024_S256x1024_256_0)) g wg wu wd) gf
        (k0_pay53 (View.ld X (Rect.unit ![256, 0] ![256, 1024] inb_S512x1024_S256x1024_256_0)) g wg wu wd)⟩,
     ⟨Rect.unit ![0, 0] ![256, 1024] inb_S512x1024_S256x1024_0_0,
      k0_pay51 (k0_pay49 (View.ld X (Rect.unit ![0, 0] ![256, 1024] inb_S512x1024_S256x1024_0_0)) g wg wu wd) gf
        (k0_pay50 (View.ld X (Rect.unit ![0, 0] ![256, 1024] inb_S512x1024_S256x1024_0_0)) g wg wu wd)
        (FloatOps.ofBits .f32 897988541#32)⟩]

/-- Entry by entry, every row of the block is the feed-forward formula of that row. -/
theorem rows_apply (X : Vec Ideal S512x1024 .f32) (g gf : Vec Ideal S1x1024 .f32) (wg wu : Vec Ideal S1024x2816 .bf16)
    (wd : Vec Ideal S2816x1024 .bf16) (y : S512x1024.Idx) :
    rows X g gf wg wu wd y =
      ffn (fun k => g (ix2 0 k)) (fun k => gf (ix2 0 k)) (fun k n => wg (ix2 k n)) (fun k n => wu (ix2 k n))
          (fun n k => wd (ix2 n k))
        (fun k => X (ix2 (y 0) k)) (y 1) := by
  unfold rows
  canon_tiles x h
  all_goals
    idx_vars x
    obtain rfl : x1 = y 1 := Fin.ext h1.symm
  · refine (rows_hi _ _ _ _ _ _ _ _).trans (congrArg (fun r => ffn _ _ _ _ _ r _) (funext fun k => congrArg X
      (funext fun a => Fin.ext ?_)))
    fin_cases a
    · show 256 + 1 * x0.val = (y 0).val; omega
    · show 0 + 1 * k.val = k.val; omega
  · refine (rows_lo _ _ _ _ _ _ _ _).trans (congrArg (fun r => ffn _ _ _ _ _ r _) (funext fun k => congrArg X
      (funext fun a => Fin.ext ?_)))
    fin_cases a
    · show 0 + 1 * x0.val = (y 0).val; omega
    · show 0 + 1 * k.val = k.val; omega

/-- The first point's rows, from the weights it has just copied. -/
theorem rows_A (c : Dev nD) (t : Fin cfg0.N) (h0 : t.val % 32 = 0) (h1 : ¬t.val % 32 = 31) :
   (outsAt0 m c t.val t.isLt).1 = rows (iblk m c 0 t) (iblk m c 2 t) (iblk m c 3 t) (outsAt0 m c t.val t.isLt).2.2.1
     (outsAt0 m c t.val t.isLt).2.2.2.1 (outsAt0 m c t.val t.isLt).2.2.2.2 := by
  rw [outsAt0_A m c t h0 h1]
  unfold rows
  frame_open
  simp (disch := decide) only [readCov_staged, View.readCov_skip]
  frame_out
  simp (disch := decide) only [readCov_all]

/-- An inner point's rows, from the held weights. -/
theorem rows_B (c : Dev nD) (t : Fin cfg0.N) (h0 : ¬t.val % 32 = 0) (h1 : ¬t.val % 32 = 31) :
   (outsAt0 m c t.val t.isLt).1 = rows (iblk m c 0 t) (iblk m c 2 t) (iblk m c 3 t) (outsAt0 m c t.val t.isLt).2.2.1
     (outsAt0 m c t.val t.isLt).2.2.2.1 (outsAt0 m c t.val t.isLt).2.2.2.2 := by
  rw [held_B m c t h0 h1, outsAt0_B m c t h0 h1]
  frame_out
  simp only [read_unread_whole]

/-- The last point's rows, from the held weights. -/
theorem rows_C (c : Dev nD) (t : Fin cfg0.N) (h0 : ¬t.val % 32 = 0) (h1 : t.val % 32 = 31) :
   (outsAt0 m c t.val t.isLt).1 = rows (iblk m c 0 t) (iblk m c 2 t) (iblk m c 3 t) (outsAt0 m c t.val t.isLt).2.2.1
     (outsAt0 m c t.val t.isLt).2.2.2.1 (outsAt0 m c t.val t.isLt).2.2.2.2 := by
  rw [held_C m c t h0 h1, outsAt0_C m c t h0 h1]
  unfold rows
  frame_out
  simp only [read_unread_whole]

/-- The gate weights as the kernel's call finds them: the argument's, under a leading unit axis. -/
theorem v0 (c : Dev nD) (k : Fin 1024) (n : Fin 2816) : V m c main_v0 (ix3 0 k n) = m
    ((c.tc : Thread nD τ).loc main_arg3) (ix2 k n) := by
  entry_read
  pointwise
/-- The up weights, likewise. -/
theorem v1 (c : Dev nD) (k : Fin 1024) (n : Fin 2816) : V m c main_v1 (ix3 0 k n) = m
    ((c.tc : Thread nD τ).loc main_arg4) (ix2 k n) := by
  entry_read
  pointwise
/-- The down weights, likewise. -/
theorem v2 (c : Dev nD) (k : Fin 2816) (n : Fin 1024) : V m c main_v2 (ix3 0 k n) = m
    ((c.tc : Thread nD τ).loc main_arg5) (ix2 k n) := by
  entry_read
  pointwise

/-- A row through the feed-forward block, its parameters the launch's. -/
def out (c : Dev nD) (x : Fin 1024 → EReal) : Fin 1024 → EReal :=
  ffn (fun k => m ((c.tc : Thread nD τ).loc main_arg2) (ix2 0 k)) (fun k => m ((c.tc : Thread nD τ).loc main_arg6) (ix2 0 k))
    (fun k n => m ((c.tc : Thread nD τ).loc main_arg3) (ix2 k n)) (fun k n => m ((c.tc : Thread nD τ).loc main_arg4) (ix2 k n))
    (fun n k => m ((c.tc : Thread nD τ).loc main_arg5) (ix2 n k)) x

set_option maxHeartbeats 2000000 in
/-- The first point's copies leave the gate weights. -/
theorem held_first0 (c : Dev nD) (t : Fin cfg0.N) (h0 : t.val % 32 = 0) (h1 : ¬t.val % 32 = 31) :
    (outsAt0 m c t.val t.isLt).2.2.1 = fun y => V m c main_v0 (ix3 0 (y 0) (y 1)) := by
  rw [outsAt0_A m c t h0 h1]
  frame_open
  simp (disch := decide) only [readCov_staged, View.readCov_skip]
  frame_out
  funext y
  canon_tiles x h using (View.cover_of_tiledBy _ ![256, 256] (by sl_kernel_rfl) _)
  all_goals open_payloads
  all_goals pointwise
  all_goals refine landed (b := main_v0) (V m c main_v0) _ _ fun a => ?_
  all_goals fin_cases a
  all_goals first | rfl | exact h0 | exact h0.trans (Nat.zero_add _).symm | exact h1 | exact h1.trans (Nat.zero_add _).symm

set_option maxHeartbeats 2000000 in
/-- The first point's copies leave the up weights. -/
theorem held_first1 (c : Dev nD) (t : Fin cfg0.N) (h0 : t.val % 32 = 0) (h1 : ¬t.val % 32 = 31) :
    (outsAt0 m c t.val t.isLt).2.2.2.1 = fun y => V m c main_v1 (ix3 0 (y 0) (y 1)) := by
  rw [outsAt0_A m c t h0 h1]
  frame_open
  simp (disch := decide) only [readCov_staged, View.readCov_skip]
  frame_out
  funext y
  canon_tiles x h using (View.cover_of_tiledBy _ ![256, 256] (by sl_kernel_rfl) _)
  all_goals open_payloads
  all_goals pointwise
  all_goals refine landed (b := main_v1) (V m c main_v1) _ _ fun a => ?_
  all_goals fin_cases a
  all_goals first | rfl | exact h0 | exact h0.trans (Nat.zero_add _).symm | exact h1 | exact h1.trans (Nat.zero_add _).symm

set_option maxHeartbeats 2000000 in
/-- The first point's copies leave the down weights. -/
theorem held_first2 (c : Dev nD) (t : Fin cfg0.N) (h0 : t.val % 32 = 0) (h1 : ¬t.val % 32 = 31) :
    (outsAt0 m c t.val t.isLt).2.2.2.2 = fun y => V m c main_v2 (ix3 0 (y 0) (y 1)) := by
  rw [outsAt0_A m c t h0 h1]
  frame_open
  simp (disch := decide) only [readCov_staged, View.readCov_skip]
  frame_out
  funext y
  canon_tiles x h
  all_goals open_payloads
  all_goals pointwise
  all_goals refine landed (b := main_v2) (V m c main_v2) _ _ fun a => ?_
  all_goals fin_cases a
  all_goals first | rfl | exact h0 | exact h0.trans (Nat.zero_add _).symm | exact h1 | exact h1.trans (Nat.zero_add _).symm

/-- After every point the scratch memory holds the three weight matrices. -/
theorem held (c : Dev nD) (t : Fin cfg0.N) : (outsAt0 m c t.val t.isLt).2.2 = (fun y => V m c main_v0 (ix3 0 (y 0)
    (y 1)), fun y => V m c main_v1 (ix3 0 (y 0) (y 1)),
      fun y => V m c main_v2 (ix3 0 (y 0) (y 1))) := by
  obtain ⟨n, hn⟩ := t
  induction n with
  | zero =>
    have h0 : (⟨0, hn⟩ : Fin cfg0.N).val % 32 = 0 := rfl
    have h1 : ¬(⟨0, hn⟩ : Fin cfg0.N).val % 32 = 31 := by show ¬(0 : ℕ) % 32 = 31; decide
    exact Prod.ext (held_first0 m c ⟨0, hn⟩ h0 h1) (Prod.ext (held_first1 m c ⟨0, hn⟩ h0 h1) (held_first2 m c ⟨0, hn⟩ h0 h1))
  | succ n ih =>
    have hN : n + 1 < 32 := lt_of_lt_of_eq hn (show cfg0.N = 32 from N_0)
    refine Eq.trans ?_ (ih (Nat.lt_of_succ_lt hn))
    by_cases h1 : (n + 1) % 32 = 31
    · exact held_C m c ⟨n + 1, hn⟩ (by show ¬(n + 1) % 32 = 0; omega) h1
    · exact held_B m c ⟨n + 1, hn⟩ (by show ¬(n + 1) % 32 = 0; omega) h1

/-- Every point's rows, from the weights it leaves held. -/
theorem rows_all (c : Dev nD) (t : Fin cfg0.N) :
   (outsAt0 m c t.val t.isLt).1 = rows (iblk m c 0 t) (iblk m c 2 t) (iblk m c 3 t) (outsAt0 m c t.val t.isLt).2.2.1
     (outsAt0 m c t.val t.isLt).2.2.2.1 (outsAt0 m c t.val t.isLt).2.2.2.2 := by
  by_cases h0 : t.val % 32 = 0
  · exact rows_A m c t h0 (by omega)
  · by_cases h1 : t.val % 32 = 31
    · exact rows_C m c t h0 h1
    · exact rows_B m c t h0 h1

/-- Where each window's block lies: the rows follow the grid, everything else is whole. -/
theorem idx : ∀ t : Fin cfg0.N, (win0_0.index t (0 : Fin 2) = t.val ∧ win0_0.index t (1 : Fin 2) = 0) ∧
    (win0_2.index t (0 : Fin 2) = 0 ∧ win0_2.index t (1 : Fin 2) = 0) ∧ (win0_3.index t (0 : Fin 2) = 0 ∧ win0_3.index t
        (1 : Fin 2) = 0) ∧
    (win0_4.index t (0 : Fin 2) = t.val ∧ win0_4.index t (1 : Fin 2) = 0) ∧
    win0_1.index t (0 : Fin 2) = 0 ∧ win0_1.index t (1 : Fin 2) = 0 := by decide +kernel

/-- The first norm's scale, as a point reads it. -/
theorem row2 (c : Dev nD) (t : Fin cfg0.N) (k : Fin 1024) :
    iblk m c 2 t (ix2 0 k) = m ((c.tc : Thread nD τ).loc main_arg2) (ix2 0 k) := by
  blk_ext [iblk, V_main_arg2, idx t]

/-- The final norm's scale, as a point reads it. -/
theorem row3 (c : Dev nD) (t : Fin cfg0.N) (k : Fin 1024) :
    iblk m c 3 t (ix2 0 k) = m ((c.tc : Thread nD τ).loc main_arg6) (ix2 0 k) := by
  blk_ext [iblk, V_main_arg6, idx t]

/-- The sample rows, as a point reads them. -/
theorem row1 (c : Dev nD) (t : Fin cfg0.N) (i : Fin 128) (k : Fin 1024) :
    iblk m c 1 t (ix2 i k) = m ((c.tc : Thread nD τ).loc main_arg1) (ix2 i k) := by
  blk_ext [iblk, V_main_arg1, idx t]

/-- The first result: every prompt row through the block. -/
theorem arr4 (c : Dev nD) : (dats m 0 c).arrAt 4 cfg0.N = fun y => out m c (fun k => m
    ((c.tc : Thread nD τ).loc main_arg0) (ix2 (y 0) k)) (y 1) := by
  refine (dats m 0 c).arrAt_eq_of_covers 4 _ (by decide +kernel) fun t hf y => ?_
  blk_simp
  rw [after0_4, rows_all, held, rows_apply]
  have e0 (k : Fin 1024) : iblk m c 0 t (ix2 (y 0) k) =
      m ((c.tc : Thread nD τ).loc main_arg0) (ix2 ((((View.whole main_v3_0).slice (win0_4.rect t)).emb y) 0) k) := by
    blk_ext [iblk, V_main_arg0, idx t]
  have e1 : (win0_4.blk t).view.emb y 1 = y 1 := by
    apply Fin.ext
    blk_simp [idx t]
  rw [e1]
  simp only [e0, row2, row3]
  unfold out
  congr 1
  · funext k n; exact v0 m c k n
  · funext k n; exact v1 m c k n
  · funext k n; exact v2 m c k n

/-- The last grid point. -/
def last : Fin cfg0.N := ⟨31, lt_of_lt_of_eq (by decide) (show 32 = cfg0.N from N_0.symm)⟩

/-- The second result: every sample row through the block. -/
theorem arr5 (c : Dev nD) : (dats m 0 c).arrAt 5 cfg0.N = fun y => out m c (fun k => m
    ((c.tc : Thread nD τ).loc main_arg1) (ix2 (y 0) k)) (y 2) := by
  refine (dats m 0 c).arrAt_eq_of_after_last 5 last (by decide +kernel) _ fun j => ?_
  blk_simp
  have h0 : ¬last.val % 32 = 0 := by decide
  have h1 : last.val % 32 = 31 := by decide
  have hh := (held_C m c last h0 h1).symm.trans (held m c last)
  rw [after0_5, outsAt0_C m c last h0 h1]
  frame_out
  simp only [read_unread_whole]
  idx_vars j
  rw [show j1 = 0 from Subsingleton.elim _ _, rows_s, hh]
  simp only [row1, row2, row3]
  unfold out
  congr 1
  · funext k n; exact v0 m c k n
  · funext k n; exact v1 m c k n
  · funext k n; exact v2 m c k n

end Cert.FfnMix

end
-- ==== Proof.FfnRef.lean ====
/- What the reference of the feed-forward block computes, row by row, by the same formula; and the claim: the two programs'
   results are equal over the extended reals. -/
module

public import proofs.«01_k».proof.Defs
public import proofs.«01_k».proof.Proof.Gen.FfnRefIdeal.Read
public import proofs.«01_k».proof.Proof.FfnKernel

@[expose] public section

set_option maxRecDepth 16384

noncomputable section

namespace Cert.FfnMix

open Idealize.ShloMosaic Idealize.SL.Sem
open Cert.FfnRefIdeal Cert.FfnRefIdeal.Read Cert.Layer

variable (a0 : Vec Ideal S16384x1024 .f32) (a1 : Vec Ideal S128x1024 .f32) (a2 : Vec Ideal S1x1024 .f32)
  (a3 a4 : Vec Ideal S1024x2816 .f32) (a5 : Vec Ideal S2816x1024 .f32) (a6 : Vec Ideal S1x1024 .f32)

/-- The prompt rows after the first norm. -/
theorem r11 (i : Fin 16384) (k : Fin 1024) :
    val_main_v11 (F := Ideal) a0 a2 (ix2 i k) = rms (fun k => a0 (ix2 i k)) (fun k => a2 (ix2 0 k)) k := by
  pointwise [val_main_v11, val_main_v10, val_main_v9, val_main_v8, val_main_v7, val_main_v6, val_main_v5,
    val_main_v4, val_main_v3, val_main_v2, val_main_v1, val_main_v0, val_main_cst, val_main_cst_0, val_main_cst_1]
  rfl

/-- The prompt rows' gate. -/
theorem r13 (i : Fin 16384) (n : Fin 2816) : val_main_v13 (F := Ideal) a0 a2 a3 (ix2 i n) =
    mul (rms (fun k => a0 (ix2 i k)) (fun k => a2 (ix2 0 k))) (fun k n => a3 (ix2 k n)) n *
      Ideal.logistic (mul (rms (fun k => a0 (ix2 i k)) (fun k => a2 (ix2 0 k))) (fun k n => a3 (ix2 k n)) n) := by
  pointwise [val_main_v13, val_main_call0_v5, val_main_call0_v4, val_main_call0_v3, val_main_call0_v2, val_main_call0_v1, val_main_call0_v0,
     val_main_call0_cst, val_main_call0_cst_0, val_main_v12, r11]
  rfl

/-- The prompt rows after the block's residual. -/
theorem r17 (i : Fin 16384) (j : Fin 1024) :
    val_main_v17 (F := Ideal) a0 a2 a3 a4 a5 (ix2 i j) =
      resid (fun k => a2 (ix2 0 k)) (fun k n => a3 (ix2 k n)) (fun k n => a4 (ix2 k n)) (fun n k => a5 (ix2 n k))
        (fun k => a0 (ix2 i k)) j := by
  pointwise [val_main_v17, val_main_v16, val_main_v15, val_main_v14, r13, r11]
  rfl

/-- The prompt rows. -/
theorem r29 (i : Fin 16384) (j : Fin 1024) :
    val_main_v29 (F := Ideal) a0 a2 a3 a4 a5 a6 (ix2 i j) =
      ffn (fun k => a2 (ix2 0 k)) (fun k => a6 (ix2 0 k)) (fun k n => a3 (ix2 k n)) (fun k n => a4 (ix2 k n))
        (fun n k => a5 (ix2 n k)) (fun k => a0 (ix2 i k)) j := by
  pointwise [val_main_v29, val_main_v28, val_main_v27, val_main_v26, val_main_v25, val_main_v24, val_main_v23, val_main_v22,
    val_main_v21, val_main_v20, val_main_v19, val_main_v18, val_main_cst_2, val_main_cst_3, val_main_cst_4, r17]
  rfl

/-- The sample rows after the first norm. -/
theorem r41 (i : Fin 128) (k : Fin 1024) :
    val_main_v41 (F := Ideal) a1 a2 (ix2 i k) = rms (fun k => a1 (ix2 i k)) (fun k => a2 (ix2 0 k)) k := by
  pointwise [val_main_v41, val_main_v40, val_main_v39, val_main_v38, val_main_v37, val_main_v36, val_main_v35,
    val_main_v34, val_main_v33, val_main_v32, val_main_v31, val_main_v30, val_main_cst_5, val_main_cst_6, val_main_cst_7]
  rfl

/-- The sample rows' gate. -/
theorem r43 (i : Fin 128) (n : Fin 2816) : val_main_v43 (F := Ideal) a1 a2 a3 (ix2 i n) =
    mul (rms (fun k => a1 (ix2 i k)) (fun k => a2 (ix2 0 k))) (fun k n => a3 (ix2 k n)) n *
      Ideal.logistic (mul (rms (fun k => a1 (ix2 i k)) (fun k => a2 (ix2 0 k))) (fun k n => a3 (ix2 k n)) n) := by
  pointwise [val_main_v43, val_main_call1_v5, val_main_call1_v4, val_main_call1_v3, val_main_call1_v2, val_main_call1_v1,
    val_main_call1_v0, val_main_call1_cst, val_main_call1_cst_0, val_main_v42, r41]
  rfl

/-- The sample rows after the block's residual. -/
theorem r47 (i : Fin 128) (j : Fin 1024) :
    val_main_v47 (F := Ideal) a1 a2 a3 a4 a5 (ix2 i j) =
      resid (fun k => a2 (ix2 0 k)) (fun k n => a3 (ix2 k n)) (fun k n => a4 (ix2 k n)) (fun n k => a5 (ix2 n k))
        (fun k => a1 (ix2 i k)) j := by
  pointwise [val_main_v47, val_main_v46, val_main_v45, val_main_v44, r43, r41]
  rfl

/-- The sample rows. -/
theorem r60 (i : Fin 128) (u : Fin 1) (j : Fin 1024) :
    val_main_v60 (F := Ideal) a1 a2 a3 a4 a5 a6 (ix3 i u j) =
      ffn (fun k => a2 (ix2 0 k)) (fun k => a6 (ix2 0 k)) (fun k n => a3 (ix2 k n)) (fun k n => a4 (ix2 k n))
        (fun n k => a5 (ix2 n k)) (fun k => a1 (ix2 i k)) j := by
  pointwise [val_main_v60, val_main_v59, val_main_v58, val_main_v57, val_main_v56, val_main_v55, val_main_v54, val_main_v53,
    val_main_v52, val_main_v51, val_main_v50, val_main_v49, val_main_v48, val_main_cst_8, val_main_cst_9, val_main_cst_10, r47]
  rfl

/-- The reference runs, leaves its arguments as they were, and ends with every counter at zero (it has none). -/
theorem frameRef : Cert.quiescent_FfnRefIdeal := fun m g _ =>
  (θ_run _ _ _).mono (fun r h => ⟨fun c => (h c).2.2, sem_eq_zero_of_no_sems (by decide) r.2⟩)
    (Cert.FfnRefIdeal.Value.run m g)

/-- THE CLAIM: from memories that agree on the arguments, the idealized kernel and the idealized reference end with
    equal results. -/
theorem algebraic : Cert.algebraic_FfnIdeal_FfnRefIdeal (hFfnIdeal := Cert.FfnIdeal.Gen.facts)
    (hFfnRefIdeal := Cert.FfnRefIdeal.Gen.facts) := by
  intro m g m' g' _ hagree
  refine ⟨_, _, Cert.FfnIdeal.Value.run_blocks m g, ?_⟩
  refine (θ_run _ _ _).mono (fun r h c => ?_) (Cert.FfnRefIdeal.Value.run m' g')
  obtain ⟨e0, e1, e2, e3, e4, e5, e6⟩ := hagree c
  obtain ⟨h0, h1, hk⟩ := h c
  refine ⟨h0.trans ?_, h1.trans ?_, hk⟩
  · rw [val_main_v29_eq, arr4]
    funext j; idx_vars j
    rw [r29, e0, e2, e3, e4, e5, e6]
    rfl
  · rw [val_main_v60_eq, arr5]
    funext j; idx_vars j
    rw [r60, e1, e2, e3, e4, e5, e6]
    rfl

end Cert.FfnMix

end
-- ==== Proof.PromptPoint.lean ====
/- One grid point of the prompt mixer, written with indices.

   The point stores the projected rows into a time-major scratch, multiplies sixteen time steps at a time into the
   scratch `bu`, and walks the recurrence slab by slab. `tmPiece`, `buPiece` and `stList` say which store is the
   `n`-th of each scratch. -/
module

public import proofs.«01_k».proof.Proof.Gen.PromptIdeal.Frame
public import Idealize.ShloMosaic.Lib.Pipeline.ValueKit
public import Idealize.ShloMosaic.Lib.Pipeline.ReadBack

@[expose] public section

set_option maxRecDepth 16384

noncomputable section

namespace Cert.PromptMix
open Idealize.ShloMosaic Idealize.SL.Sem Cert.PromptIdeal Cert.PromptIdeal.Gen

variable {F : FTy → Type} [FloatOps F]

/-- The first `n` stores of a sequence, last first, over what was stored before. -/
def stack {s : Shape} {e : EltTy} (base : List (View.Piece (Elt F) s e)) (p : ℕ → View.Piece (Elt F) s e) :
    ℕ → List (View.Piece (Elt F) s e)
  | 0 => base
  | n + 1 => p n :: stack base p n

/-- A batch row of `x` lies inside the block. -/
theorem inb_x (b : ℕ) (a : Fin 3) :
    (![b % 8, 0, 0] : Fin 3 → ℕ) a + S1x128x1024.size a ≤ S8x128x1024.size a := by
  match a with
  | ⟨0, _⟩ => show b % 8 + 1 ≤ 8; omega
  | ⟨1, _⟩ => exact Nat.le_refl _
  | ⟨2, _⟩ => exact Nat.le_refl _

/-- A slab of 512 states lies inside the 2048. -/
theorem inb_slab (n : ℕ) (a : Fin 2) :
    (![0, 512 * (n % 4)] : Fin 2 → ℕ) a + S8x512.size a ≤ S8x2048.size a := by
  match a with
  | ⟨0, _⟩ => exact Nat.le_refl _
  | ⟨1, _⟩ => show 512 * (n % 4) + 512 ≤ 2048; omega

/-- An input matrix lies inside the four. -/
theorem inb_b (n : ℕ) (a : Fin 3) :
    (![n % 4, 0, 0] : Fin 3 → ℕ) a + S1x128x1024.size a ≤ S4x128x1024.size a := by
  match a with
  | ⟨0, _⟩ => show n % 4 + 1 ≤ 4; omega
  | ⟨1, _⟩ => exact Nat.le_refl _
  | ⟨2, _⟩ => exact Nat.le_refl _

/-- A strided store of 128 rows lies inside the time-major scratch. -/
theorem inb_tm (n : ℕ) (a : Fin 3) : S1x128x128.size a = 0 ∨
    (![n % 4, n / 4 % 8, 0] : Fin 3 → ℕ) a + (![1, 8, 1] : Fin 3 → ℕ) a * (S1x128x128.size a - 1) < S4x1024x128.size a := by
  match a with
  | ⟨0, _⟩ => exact Or.inr (show n % 4 + 1 * (1 - 1) < 4 by omega)
  | ⟨1, _⟩ => exact Or.inr (show n / 4 % 8 + 8 * (128 - 1) < 1024 by omega)
  | ⟨2, _⟩ => exact Or.inr (show 0 + 1 * (128 - 1) < 128 by omega)

/-- A load of 128 rows of one slab lies inside the time-major scratch. -/
theorem inb_tm_rd (n : ℕ) (a : Fin 3) :
    (![n % 4, 128 * (n / 4 % 8), 0] : Fin 3 → ℕ) a + S1x128x128.size a ≤ S4x1024x128.size a := by
  match a with
  | ⟨0, _⟩ => show n % 4 + 1 ≤ 4; omega
  | ⟨1, _⟩ => show 128 * (n / 4 % 8) + 128 ≤ 1024; omega
  | ⟨2, _⟩ => exact Nat.le_refl _

/-- A product of 128 rows lies inside `bu`. -/
theorem inb_bu (n : ℕ) (a : Fin 4) :
    (![n / 4 % 2, n % 4, 0, 0] : Fin 4 → ℕ) a + S1x1x128x1024.size a ≤ S2x4x128x1024.size a := by
  match a with
  | ⟨0, _⟩ => show n / 4 % 2 + 1 ≤ 2; omega
  | ⟨1, _⟩ => show n % 4 + 1 ≤ 4; omega
  | ⟨2, _⟩ => exact Nat.le_refl _
  | ⟨3, _⟩ => exact Nat.le_refl _

/-- Half a step lies inside `bu`. -/
theorem inb_bu_rd (n t h : ℕ) (a : Fin 4) :
    (![n / 4 % 2, n % 4, 8 * (t % 16), 512 * (h % 2)] : Fin 4 → ℕ) a + S1x1x8x512.size a ≤ S2x4x128x1024.size a := by
  match a with
  | ⟨0, _⟩ => show n / 4 % 2 + 1 ≤ 2; omega
  | ⟨1, _⟩ => show n % 4 + 1 ≤ 4; omega
  | ⟨2, _⟩ => show 8 * (t % 16) + 8 ≤ 128; omega
  | ⟨3, _⟩ => show 512 * (h % 2) + 512 ≤ 1024; omega

/-- A quarter of a pair of projected batches. -/
theorem slices_tm (n : ℕ) : S256x512.Slices ![128 * (n / 4 % 2), 128 * (n % 4)] S128x128 :=
  ⟨rfl, fun a => by
    match a with
    | ⟨0, _⟩ => show 128 * (n / 4 % 2) + 128 ≤ 256; omega
    | ⟨1, _⟩ => show 128 * (n % 4) + 128 ≤ 512; omega⟩

/-- Batch `n / 4`'s rows of the time-major scratch, in slab `n % 4`. -/
abbrev tmRect (n : ℕ) : Rect S4x1024x128 :=
  ⟨⟨![n % 4, n / 4 % 8, 0], S1x128x128.size, ![1, 8, 1], inb_tm n⟩, spos_1_8_1⟩

section Stores
variable (lx : ℕ → Vec F S1x128x1024 .f32) (lg : Vec F S1x1024 .f32) (lw : Vec F S1024x512 .bf16)
variable (lb : ℕ → Vec F S1x128x1024 .bf16) (la li : ℕ → Vec F S8x512 .f32)
variable {κ : Kind} {sp : Space} (v19 : View sig κ sp S4x1024x128 .f32) (v23 : View sig κ sp S2x4x128x1024 .f32)
variable (v25 v26 : View sig κ sp S8x2048 .f32)

/-- The `n`-th store into the time-major scratch. -/
def tmPiece (n : ℕ) : View.Piece (Elt F) S4x1024x128 .f32 :=
  ⟨tmRect n, shapeCast S1x128x128 (extractStridedSlice S128x128 ![128 * (n / 4 % 2), 128 * (n % 4)]
    (k0_pay10 (lx (2 * (n / 8))) (lx (2 * (n / 8) + 1)) lg lw) (slices_tm n)) shapeCasts_S128x128_S1x128x128⟩

/-- The `n`-th store into `bu`: sixteen steps of slab `n % 4`. -/
def buPiece (n : ℕ) : View.Piece (Elt F) S2x4x128x1024 .f32 :=
  ⟨Rect.unit ![n / 4 % 2, n % 4, 0, 0] S1x1x128x1024.size (inb_bu n),
    k0_pay118 (v19.readCov (stack [] (tmPiece lx lg lw) 32)
      (Rect.unit (s := S4x1024x128) ![n % 4, 128 * (n / 4 % 8), 0] S1x128x128.size (inb_tm_rd n)).toLoadRect) (lb n)⟩

/-- Half `h` of step `t`'s input to the recurrence. -/
def buRd (n t h : ℕ) : Vec F S1x1x8x512 .f32 :=
  v23.readCov (stack [] (buPiece lx lg lw lb v19) (32 - (24 - 4 * (n / 4))))
    (Rect.unit (s := S2x4x128x1024) ![n / 4 % 2, n % 4, 8 * (t % 16), 512 * (h % 2)] S1x1x8x512.size (inb_bu_rd n t h)).toLoadRect

/-- One step of the recurrence on a slab. -/
def stepV (a i : Vec F S8x512 .f32) (h : Vec F S8x512 .f32 × Vec F S8x512 .f32) (br bi : Vec F S1x1x8x512 .f32) :
    Vec F S8x512 .f32 × Vec F S8x512 .f32 :=
  (addf (subf (mulf a h.1) (mulf i h.2)) (shapeCast S8x512 br shapeCasts_S1x1x8x512_S8x512),
   addf (addf (mulf a h.2) (mulf i h.1)) (shapeCast S8x512 bi shapeCasts_S1x1x8x512_S8x512))

/-- The slab's state after `t` of the sixteen steps from `h`. -/
def hs (n : ℕ) (h : Vec F S8x512 .f32 × Vec F S8x512 .f32) : ℕ → Vec F S8x512 .f32 × Vec F S8x512 .f32
  | 0 => h
  | t + 1 => stepV (la n) (li n) (hs n h t) (buRd lx lg lw lb v19 v23 n t 0) (buRd lx lg lw lb v19 v23 n t 1)

/-- The slab of a state that the scratch holds after the stores `L`. -/
def stRd (v : View sig κ sp S8x2048 .f32) (L : List (View.Piece (Elt F) S8x2048 .f32)) (n : ℕ) : Vec F S8x512 .f32 :=
  v.readCov L (Rect.unit (s := S8x2048) ![0, 512 * (n % 4)] S8x512.size (inb_slab n)).toLoadRect

/-- The first `n` stores into the two state scratches; the first `k` start from `h0`, the others from what
    the scratches hold. -/
def stList (k : ℕ) (base : List (View.Piece (Elt F) S8x2048 .f32)) (h0 : ℕ → Vec F S8x512 .f32 × Vec F S8x512 .f32) :
    ℕ → List (View.Piece (Elt F) S8x2048 .f32) × List (View.Piece (Elt F) S8x2048 .f32)
  | 0 => (base, base)
  | n + 1 =>
    let L := stList k base h0 n
    let h := hs lx lg lw lb la li v19 v23 n (bif Nat.blt n k then h0 n else (stRd v25 L.1 n, stRd v26 L.2 n)) 16
    (⟨Rect.unit ![0, 512 * (n % 4)] S8x512.size (inb_slab n), shapeCast S8x512 h.1 shapeCasts_S8x512_S8x512⟩ :: L.1,
     ⟨Rect.unit ![0, 512 * (n % 4)] S8x512.size (inb_slab n), shapeCast S8x512 h.2 shapeCasts_S8x512_S8x512⟩ :: L.2)

end Stores

/-! What a point loads from its input blocks. -/

/-- The load of batch `b` of the block of `x`. -/
def xAt (m : Memref sig .tc .vmem S8x128x1024 .f32) (h : m.IsWhole) (x : Vec F S8x128x1024 .f32) (b : ℕ) : Vec F S1x128x1024 .f32 :=
  View.readAt (Elt F) m.view (Rect.unit (s := S8x128x1024) ![b % 8, 0, 0] S1x128x1024.size (inb_x b)).toLoadRect (h.unread x)

/-- The load of the norm's scale. -/
def gAt (m : Memref sig .tc .vmem S1x1024 .f32) (h : m.IsWhole) (x : Vec F S1x1024 .f32) : Vec F S1x1024 .f32 :=
  View.readAt (Elt F) m.view (Rect.unit (s := S1x1024) ![0, 0] S1x1024.size inb_S1x1024_S1x1024_0_0).toLoadRect (h.unread x)

/-- The load of the channels' columns of the input projection. -/
def wAt (m : Memref sig .tc .vmem S1024x4608 .bf16) (h : m.IsWhole) (x : Vec F S1024x4608 .bf16) : Vec F S1024x512 .bf16 :=
  View.readAt (Elt F) m.view (Rect.unit (s := S1024x4608) ![0, 2048] S1024x512.size inb_S1024x4608_S1024x512_0_2048).toLoadRect (h.unread x)

/-- The load of an input matrix. -/
def bAt (m : Memref sig .tc .vmem S4x128x1024 .bf16) (h : m.IsWhole) (x : Vec F S4x128x1024 .bf16) (n : ℕ) : Vec F S1x128x1024 .bf16 :=
  View.readAt (Elt F) m.view (Rect.unit (s := S4x128x1024) ![n % 4, 0, 0] S1x128x1024.size (inb_b n)).toLoadRect (h.unread x)

/-- The load of a slab of 512 states. -/
def slabAt (m : Memref sig .tc .vmem S8x2048 .f32) (h : m.IsWhole) (x : Vec F S8x2048 .f32) (n : ℕ) : Vec F S8x512 .f32 :=
  View.readAt (Elt F) m.view (Rect.unit (s := S8x2048) ![0, 512 * (n % 4)] S8x512.size (inb_slab n)).toLoadRect (h.unread x)

set_option maxHeartbeats 4000000 in
/-- What the first point stores into the real state scratch. -/
theorem run_A_re (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : cond0_0 i) (hc1 : ¬cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14).2.2.2.1
    = (stList (xAt arg1 harg1 x0) (gAt arg2 harg2 x1) (wAt arg3 harg3 x2)
      (bAt arg10 harg10 x9) (slabAt arg8 harg8 x7) (slabAt arg9 harg9 x8) arg19.view arg23.view arg25.view arg26.view
      0 [⟨Rect.unit (s := S8x2048) ![0, 0] S8x2048.size inb_S8x2048_S8x2048_0_0, k0_pay4⟩] (fun _ => (fun _ => Scalar.ofBits .f32 0#32, fun _ => Scalar.ofBits .f32 0#32)) 32).1 := by
  sl_kernel_rfl

set_option maxHeartbeats 4000000 in
/-- What the first point stores into the imaginary state scratch. -/
theorem run_A_im (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : cond0_0 i) (hc1 : ¬cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14).2.2.2.2.1
    = (stList (xAt arg1 harg1 x0) (gAt arg2 harg2 x1) (wAt arg3 harg3 x2)
      (bAt arg10 harg10 x9) (slabAt arg8 harg8 x7) (slabAt arg9 harg9 x8) arg19.view arg23.view arg25.view arg26.view
      0 [⟨Rect.unit (s := S8x2048) ![0, 0] S8x2048.size inb_S8x2048_S8x2048_0_0, k0_pay4⟩] (fun _ => (fun _ => Scalar.ofBits .f32 0#32, fun _ => Scalar.ofBits .f32 0#32)) 32).2 := by
  sl_kernel_rfl

set_option maxHeartbeats 4000000 in
/-- What an inner point stores into the real state scratch. -/
theorem run_B_re (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : ¬cond0_0 i) (hc1 : ¬cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) (xs6 : Vec F S8x2048 .f32) (xs7 : Vec F S8x2048 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.2.1
    = (stList (xAt arg1 harg1 x0) (gAt arg2 harg2 x1) (wAt arg3 harg3 x2)
      (bAt arg10 harg10 x9) (slabAt arg8 harg8 x7) (slabAt arg9 harg9 x8) arg19.view arg23.view arg25.view arg26.view
      4 [] (fun n => (slabAt arg25 harg25 xs6 n, slabAt arg26 harg26 xs7 n)) 32).1 := by
  sl_kernel_rfl

set_option maxHeartbeats 4000000 in
/-- What an inner point stores into the imaginary state scratch. -/
theorem run_B_im (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : ¬cond0_0 i) (hc1 : ¬cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) (xs6 : Vec F S8x2048 .f32) (xs7 : Vec F S8x2048 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.2.2.1
    = (stList (xAt arg1 harg1 x0) (gAt arg2 harg2 x1) (wAt arg3 harg3 x2)
      (bAt arg10 harg10 x9) (slabAt arg8 harg8 x7) (slabAt arg9 harg9 x8) arg19.view arg23.view arg25.view arg26.view
      4 [] (fun n => (slabAt arg25 harg25 xs6 n, slabAt arg26 harg26 xs7 n)) 32).2 := by
  sl_kernel_rfl

set_option maxHeartbeats 4000000 in
/-- What the last point stores into the real state scratch. -/
theorem run_C_re (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : ¬cond0_0 i) (hc1 : cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) (xs6 : Vec F S8x2048 .f32) (xs7 : Vec F S8x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.2.1
    = (stList (xAt arg1 harg1 x0) (gAt arg2 harg2 x1) (wAt arg3 harg3 x2)
      (bAt arg10 harg10 x9) (slabAt arg8 harg8 x7) (slabAt arg9 harg9 x8) arg19.view arg23.view arg25.view arg26.view
      4 [] (fun n => (slabAt arg25 harg25 xs6 n, slabAt arg26 harg26 xs7 n)) 32).1 := by
  sl_kernel_rfl

set_option maxHeartbeats 4000000 in
/-- What the last point stores into the imaginary state scratch. -/
theorem run_C_im (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : ¬cond0_0 i) (hc1 : cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) (xs6 : Vec F S8x2048 .f32) (xs7 : Vec F S8x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.2.2.1
    = (stList (xAt arg1 harg1 x0) (gAt arg2 harg2 x1) (wAt arg3 harg3 x2)
      (bAt arg10 harg10 x9) (slabAt arg8 harg8 x7) (slabAt arg9 harg9 x8) arg19.view arg23.view arg25.view arg26.view
      4 [] (fun n => (slabAt arg25 harg25 xs6 n, slabAt arg26 harg26 xs7 n)) 32).2 := by
  sl_kernel_rfl

set_option maxHeartbeats 4000000 in
/-- What the last point stores into the real state result: the scratch. -/
theorem run_C_hre (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : ¬cond0_0 i) (hc1 : cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) (xs6 : Vec F S8x2048 .f32) (xs7 : Vec F S8x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.1
    = [⟨Rect.unit (s := S8x2048) ![0, 0] S8x2048.size inb_S8x2048_S8x2048_0_0,
        arg25.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.2.1
          (Rect.unit (s := S8x2048) ![0, 0] S8x2048.size inb_S8x2048_S8x2048_0_0).toLoadRect⟩] := by
  sl_kernel_rfl

set_option maxHeartbeats 4000000 in
/-- What the last point stores into the imaginary state result: the scratch. -/
theorem run_C_him (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x1024 .f32) (harg7 : arg7.IsWhole) (arg8 : Memref sig .tc .vmem S8x2048 .f32) (harg8 : arg8.IsWhole) (arg9 : Memref sig .tc .vmem S8x2048 .f32) (harg9 : arg9.IsWhole) (arg10 : Memref sig .tc .vmem S4x128x1024 .bf16) (harg10 : arg10.IsWhole) (arg11 : Memref sig .tc .vmem S4x1024x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S512x2048 .bf16) (harg14 : arg14.IsWhole) (arg15 : Memref sig .tc .vmem S1024x1024 .bf16) (harg15 : arg15.IsWhole) (arg16 : Memref sig .tc .vmem S8x128x1024 .f32) (harg16 : arg16.IsWhole) (arg17 : Memref sig .tc .vmem S8x2048 .f32) (harg17 : arg17.IsWhole) (arg18 : Memref sig .tc .vmem S8x2048 .f32) (harg18 : arg18.IsWhole) (arg19 : Memref sig .tc .vmem S4x1024x128 .f32) (harg19 : arg19.IsWhole) (arg20 : Memref sig .tc .vmem S4x1024x128 .f32) (harg20 : arg20.IsWhole) (arg21 : Memref sig .tc .vmem S1024x1024 .f32) (harg21 : arg21.IsWhole) (arg22 : Memref sig .tc .vmem S1024x1024 .bf16) (harg22 : arg22.IsWhole) (arg23 : Memref sig .tc .vmem S2x4x128x1024 .f32) (harg23 : arg23.IsWhole) (arg24 : Memref sig .tc .vmem S2x4x128x1024 .bf16) (harg24 : arg24.IsWhole) (arg25 : Memref sig .tc .vmem S8x2048 .f32) (harg25 : arg25.IsWhole) (arg26 : Memref sig .tc .vmem S8x2048 .f32) (harg26 : arg26.IsWhole) (hc0 : ¬cond0_0 i) (hc1 : cond0_1 i)
    (x0 : Vec F S8x128x1024 .f32) (x1 : Vec F S1x1024 .f32) (x2 : Vec F S1024x4608 .bf16) (x3 : Vec F S1x1024 .f32) (x4 : Vec F S1x1024 .f32) (x5 : Vec F S8x128x128 .bf16) (x6 : Vec F S128x1024 .f32) (x7 : Vec F S8x2048 .f32) (x8 : Vec F S8x2048 .f32) (x9 : Vec F S4x128x1024 .bf16) (x10 : Vec F S4x1024x128 .bf16) (x11 : Vec F S1x512 .f32) (x12 : Vec F S1024x1024 .bf16) (x13 : Vec F S512x2048 .bf16) (x14 : Vec F S1024x1024 .bf16) (xs6 : Vec F S8x2048 .f32) (xs7 : Vec F S8x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.1
    = [⟨Rect.unit (s := S8x2048) ![0, 0] S8x2048.size inb_S8x2048_S8x2048_0_0,
        arg26.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 xs6 xs7).2.2.2.2.1
          (Rect.unit (s := S8x2048) ![0, 0] S8x2048.size inb_S8x2048_S8x2048_0_0).toLoadRect⟩] := by
  sl_kernel_rfl

end Cert.PromptMix
-- ==== Proof.PromptStores.lean ====
/- What the stores of one grid point of the prompt mixer leave: the projected rows, the inputs to the recurrence, and the
   recurrence itself, slab by slab, entry by entry. -/
module

public import proofs.«01_k».proof.Proof.PromptPoint
public import proofs.«01_k».proof.Proof.Spec

@[expose] public section

set_option maxRecDepth 16384

noncomputable section

namespace Cert.PromptMix
open Idealize.ShloMosaic Idealize.SL.Sem Cert.PromptIdeal Cert.PromptIdeal.Gen Cert.Layer

/-- Every store of a sequence is one of its terms or was there before. -/
theorem mem_stack {F : FTy → Type} [FloatOps F] {s : Shape} {e : EltTy} (p : ℕ → View.Piece (Elt F) s e) :
    ∀ (n : ℕ) (x : View.Piece (Elt F) s e), x ∈ stack [] p n → ∃ k, k < n ∧ x = p k
  | 0, x, h => absurd h List.not_mem_nil
  | n + 1, x, h => by
    rcases List.mem_cons.mp h with h | h
    · exact ⟨n, Nat.lt_succ_self n, h⟩
    · obtain ⟨k, hk, e⟩ := mem_stack p n x h
      exact ⟨k, by omega, e⟩

/-- Every term below `n` is among the first `n` stores. -/
theorem mem_of_lt {F : FTy → Type} [FloatOps F] {s : Shape} {e : EltTy} (p : ℕ → View.Piece (Elt F) s e) :
    ∀ (n k : ℕ), k < n → p k ∈ stack [] p n
  | 0, k, h => absurd h (Nat.not_lt_zero k)
  | n + 1, k, h => by
    rcases Nat.lt_succ_iff_lt_or_eq.mp h with h | rfl
    · exact List.mem_cons_of_mem _ (mem_of_lt p n k h)
    · exact List.mem_cons_self

/-- An index that the last `d` stores miss and the one before them covers reads that one's payload. -/
theorem canon_stack {F : FTy → Type} [FloatOps F] {s : Shape} {e : EltTy} (base : List (View.Piece (Elt F) s e))
    (p : ℕ → View.Piece (Elt F) s e) (k : ℕ)
    (x : (p k).1.shape.Idx) : ∀ d : ℕ, (∀ i, i < d → (p k).1.emb x ∉ (p (k + 1 + i)).1.set) →
      View.canon (stack base p (k + 1 + d)) ((p k).1.emb x) = (p k).2 x
  | 0, _ => View.canon_cons_emb _ _ _ _
  | d + 1, h => (View.canon_cons_of_not_mem _ _ (h d (Nat.lt_succ_self d))).trans
      (canon_stack base p k x d fun i hi => h i (Nat.lt_succ_of_lt hi))

section Stores
variable (lx : ℕ → Vec Ideal S1x128x1024 .f32) (lg : Vec Ideal S1x1024 .f32) (lw : Vec Ideal S1024x512 .bf16)
variable (lb : ℕ → Vec Ideal S1x128x1024 .bf16) (la li : ℕ → Vec Ideal S8x512 .f32)
variable {κ : Kind} {sp : Space} (v19 : View sig κ sp S4x1024x128 .f32) (v23 : View sig κ sp S2x4x128x1024 .f32)
variable (v25 v26 : View sig κ sp S8x2048 .f32)

/-- The state-space channel `n` of batch `b`'s row at step `r` of the chunk. -/
def chanAt (b : ℕ) (r : Fin 128) (n : Fin 512) : EReal :=
  mul (rms (fun k => lx b (ix3 0 r k)) (fun k => lg (ix2 0 k))) (fun k m => lw (ix2 k m)) n

/-- The projection of two batches' rows, entry by entry. -/
theorem pay10_lo (x y : Vec Ideal S1x128x1024 .f32) (r : Fin 128) (n : Fin 512) :
    k0_pay10 x y lg lw (ix2 ⟨r.val, by omega⟩ n) =
      mul (rms (fun k => x (ix3 0 r k)) (fun k => lg (ix2 0 k))) (fun k m => lw (ix2 k m)) n := by
  pointwise [k0_pay10, k0_pay6]
  rfl

/-- The second batch of a projected pair. -/
theorem pay10_hi (x y : Vec Ideal S1x128x1024 .f32) (r : Fin 128) (n : Fin 512) :
    k0_pay10 x y lg lw (ix2 ⟨128 + r.val, by omega⟩ n) =
      mul (rms (fun k => y (ix3 0 r k)) (fun k => lg (ix2 0 k))) (fun k m => lw (ix2 k m)) n := by
  pointwise [k0_pay10, k0_pay6]
  rfl

/-- Sixteen steps' inputs to the recurrence. -/
theorem pay118 (x : Vec Ideal S1x128x128 .f32) (y : Vec Ideal S1x128x1024 .bf16) (r : Fin 128) (n : Fin 1024) :
    k0_pay118 x y (ix4 0 0 r n) = ∑ k : Fin 128, x (ix3 0 r k) * y (ix3 0 k n) := by
  pointwise [k0_pay118]

/-- A row of a projected pair is that batch's channels. -/
theorem pay10_row (b : ℕ) (r : Fin 128) (n : Fin 512) (R : Fin 256) (hR : R.val = 128 * (b % 2) + r.val) :
    k0_pay10 (lx (2 * (b / 2))) (lx (2 * (b / 2) + 1)) lg lw (ix2 R n) = chanAt lx lg lw b r n := by
  rcases Nat.mod_two_eq_zero_or_one b with h | h
  · have e : R = ⟨r.val, by omega⟩ := Fin.ext (by rw [hR, h]; simp)
    rw [e, pay10_lo, show 2 * (b / 2) = b by omega]; rfl
  · have e : R = ⟨128 + r.val, by omega⟩ := Fin.ext (by rw [hR, h])
    rw [e, pay10_hi, show 2 * (b / 2) + 1 = b by omega]; rfl

/-- The time-major scratch: row `8 r + b` of slab `j` holds the channels of batch `b` at step `r`. -/
def tmVal (y : S4x1024x128.Idx) : EReal :=
  chanAt lx lg lw ((y 1).val % 8) ⟨(y 1).val / 8, by have := (y 1).isLt; show _ < _; change _ < 1024 at this; omega⟩
    ⟨128 * (y 0).val + (y 2).val, by have h0 := (y 0).isLt; have h2 := (y 2).isLt; change _ < 4 at h0; change _ < 128 at h2; omega⟩

/-- Every store into the time-major scratch agrees with `tmVal`. -/
theorem tmPiece_val (n : ℕ) (hn : n < 32) (x : S1x128x128.Idx) :
    (tmPiece lx lg lw n).2 x = tmVal lx lg lw ((tmPiece lx lg lw n).1.emb x) := by
  idx_vars x
  have e0 : ((tmRect n).emb (ix3 x0 x1 x2) 0).val = n % 4 := by
    show n % 4 + 1 * x0.val = n % 4; omega
  have e1 : ((tmRect n).emb (ix3 x0 x1 x2) 1).val = n / 4 + 8 * x1.val := by
    show n / 4 % 8 + 8 * x1.val = _; omega
  have e2 : ((tmRect n).emb (ix3 x0 x1 x2) 2).val = x2.val := by
    show 0 + 1 * x2.val = _; omega
  have hl : (tmPiece lx lg lw n).2 (ix3 x0 x1 x2) = k0_pay10 (lx (2 * (n / 8))) (lx (2 * (n / 8) + 1)) lg lw
      (ix2 ⟨128 * (n / 4 % 2) + x1.val, by omega⟩ ⟨128 * (n % 4) + x2.val, by omega⟩) := by
    unfold tmPiece
    pointwise
  rw [hl, show n / 8 = n / 4 / 2 by omega, pay10_row lx lg lw (n / 4) x1 _ _ rfl]
  unfold tmVal
  congr 1
  · show _ = ((tmRect n).emb (ix3 x0 x1 x2) 1).val % 8; rw [e1]; omega
  · apply Fin.ext; show _ = ((tmRect n).emb (ix3 x0 x1 x2) 1).val / 8; rw [e1]; omega
  · apply Fin.ext
    show _ = 128 * ((tmRect n).emb (ix3 x0 x1 x2) 0).val + ((tmRect n).emb (ix3 x0 x1 x2) 2).val
    rw [e0, e2]

/-- The time-major scratch holds `tmVal`. -/
theorem tm_canon (y : S4x1024x128.Idx) : View.canon (stack [] (tmPiece lx lg lw) 32) y = tmVal lx lg lw y := by
  have h0 := (y 0).isLt
  have h1 := (y 1).isLt
  have h2 := (y 2).isLt
  change _ < 4 at h0; change _ < 1024 at h1; change _ < 128 at h2
  refine View.canon_apply_of_pieces (tmVal lx lg lw) _ (fun p hp x => ?_) y
    ⟨tmPiece lx lg lw (4 * ((y 1).val % 8) + (y 0).val), mem_of_lt _ 32 _ (by omega), ?_⟩
  · obtain ⟨k, hk, rfl⟩ := mem_stack _ 32 p hp
    exact tmPiece_val lx lg lw k hk x
  · rw [LoadRect.mem_set]
    intro a
    match a with
    | ⟨0, _⟩ => exact ⟨0, Nat.one_pos, show (y 0).val = (4 * ((y 1).val % 8) + (y 0).val) % 4 + 1 * 0 by omega⟩
    | ⟨1, _⟩ => exact ⟨(y 1).val / 8, show _ < 128 by omega, show (y 1).val = (4 * ((y 1).val % 8) + (y 0).val) / 4 % 8 + 8 * ((y 1).val / 8) by omega⟩
    | ⟨2, _⟩ => exact ⟨(y 2).val, h2, show (y 2).val = 0 + 1 * (y 2).val by omega⟩

/-- A store into `bu`, entry by entry. -/
theorem buPiece_val (n : ℕ) (hn : n < 32) (i : Fin 128) (p : Fin 1024) :
    (buPiece lx lg lw lb v19 n).2 (ix4 0 0 i p) = ∑ k : Fin 128,
      chanAt lx lg lw (i.val % 8) ⟨16 * (n / 4) + i.val / 8, by omega⟩ ⟨128 * (n % 4) + k.val, by omega⟩ * lb n (ix3 0 k p) := by
  unfold buPiece
  rw [View.readCov_eq_canon']
  refine (pay118 _ _ i p).trans (Finset.sum_congr rfl fun k _ => congrArg (· * _) ?_)
  refine (tm_canon lx lg lw _).trans ?_
  unfold tmVal
  congr 1
  · show (128 * (n / 4 % 8) + 1 * i.val) % 8 = _; omega
  · apply Fin.ext; show (128 * (n / 4 % 8) + 1 * i.val) / 8 = 16 * (n / 4) + i.val / 8; omega
  · apply Fin.ext; show 128 * (n % 4 + 1 * 0) + (0 + 1 * k.val) = 128 * (n % 4) + k.val; omega

/-- What the recurrence reads from `bu` at step `t` of the sixteen. -/
theorem buRd_val (n : ℕ) (hn : n < 32) (t h : ℕ) (ht : t < 16) (hh : h < 2) (b : Fin 8) (p : Fin 512) :
    buRd lx lg lw lb v19 v23 n t h (ix4 0 0 b p) = ∑ k : Fin 128,
      chanAt lx lg lw b.val ⟨16 * (n / 4) + t, by omega⟩ ⟨128 * (n % 4) + k.val, by omega⟩
        * lb n (ix3 0 k ⟨512 * h + p.val, by omega⟩) := by
  unfold buRd
  rw [View.readCov_eq_canon']
  obtain ⟨d, hd, hd8⟩ : ∃ d, 32 - (24 - 4 * (n / 4)) = n + 1 + d ∧ d < 8 := ⟨32 - (24 - 4 * (n / 4)) - (n + 1), by omega, by omega⟩
  rw [hd]
  have key := canon_stack [] (buPiece lx lg lw lb v19) n (ix4 0 0 ⟨8 * t + b.val, by omega⟩ ⟨512 * h + p.val, by omega⟩) d (fun i hi hm => ?_)
  · refine Eq.trans (congrArg (View.canon _) (funext fun a => Fin.ext ?_)) (key.trans ?_)
    · match a with
      | ⟨0, _⟩ => rfl
      | ⟨1, _⟩ => rfl
      | ⟨2, _⟩ => show 8 * (t % 16) + 1 * b.val = 0 + 1 * (8 * t + b.val); omega
      | ⟨3, _⟩ => show 512 * (h % 2) + 1 * p.val = 0 + 1 * (512 * h + p.val); omega
    · rw [buPiece_val lx lg lw lb v19 n hn]
      refine Finset.sum_congr rfl fun k _ => congrArg (· * _) ?_
      congr 1
      · show (8 * t + b.val) % 8 = b.val; omega
      · apply Fin.ext; show 16 * (n / 4) + (8 * t + b.val) / 8 = 16 * (n / 4) + t; omega
  · rw [LoadRect.mem_set] at hm
    obtain ⟨j0, hj0, h0⟩ := hm 0
    obtain ⟨j1, hj1, h1⟩ := hm 1
    change j0 < 1 at hj0
    change j1 < 1 at hj1
    change n / 4 % 2 + 1 * 0 = (n + 1 + i) / 4 % 2 + 1 * j0 at h0
    change n % 4 + 1 * 0 = (n + 1 + i) % 4 + 1 * j1 at h1
    omega

/-! ## The recurrence within a point -/

variable (k0 : ℕ) (base : List (View.Piece (Elt Ideal) S8x2048 .f32)) (h0 : ℕ → Vec Ideal S8x512 .f32 × Vec Ideal S8x512 .f32)

/-- What the `n`-th slab update starts from. -/
def startAt (n : ℕ) : Vec Ideal S8x512 .f32 × Vec Ideal S8x512 .f32 :=
  bif Nat.blt n k0 then h0 n
  else (stRd v25 (stList lx lg lw lb la li v19 v23 v25 v26 k0 base h0 n).1 n,
        stRd v26 (stList lx lg lw lb la li v19 v23 v25 v26 k0 base h0 n).2 n)

/-- What the `n`-th slab update ends with. -/
def endAt (n : ℕ) : Vec Ideal S8x512 .f32 × Vec Ideal S8x512 .f32 :=
  hs lx lg lw lb la li v19 v23 n (startAt lx lg lw lb la li v19 v23 v25 v26 k0 base h0 n) 16

/-- The `n`-th store of a slab of a state. -/
def stPiece (H : ℕ → Vec Ideal S8x512 .f32) (n : ℕ) : View.Piece (Elt Ideal) S8x2048 .f32 :=
  ⟨Rect.unit ![0, 512 * (n % 4)] S8x512.size (inb_slab n), shapeCast S8x512 (H n) shapeCasts_S8x512_S8x512⟩

/-- The stores into the state scratches as a sequence. -/
theorem stList_eq : ∀ n, stList lx lg lw lb la li v19 v23 v25 v26 k0 base h0 n =
    (stack base (stPiece fun n => (endAt lx lg lw lb la li v19 v23 v25 v26 k0 base h0 n).1) n,
     stack base (stPiece fun n => (endAt lx lg lw lb la li v19 v23 v25 v26 k0 base h0 n).2) n)
  | 0 => rfl
  | n + 1 => Prod.ext (congrArg (List.cons _) (congrArg Prod.fst (stList_eq n)))
      (congrArg (List.cons _) (congrArg Prod.snd (stList_eq n)))

/-- A slab reads the last store into it. -/
theorem stPiece_rd (H : ℕ → Vec Ideal S8x512 .f32) (n d : ℕ) (hd : d < 4) (y : S8x2048.Idx) (x : S8x512.Idx)
    (e0 : (y 0).val = (x 0).val) (e1 : (y 1).val = 512 * (n % 4) + (x 1).val) :
    View.canon (stack base (stPiece H) (n + 1 + d)) y = H n x := by
  have key := canon_stack base (stPiece H) n x d (fun i hi hm => ?_)
  · refine Eq.trans (congrArg (View.canon _) (funext fun a => Fin.ext ?_)) (key.trans ?_)
    · match a with
      | ⟨0, _⟩ => show (y 0).val = 0 + 1 * (x 0).val; omega
      | ⟨1, _⟩ => show (y 1).val = 512 * (n % 4) + 1 * (x 1).val; omega
    · unfold stPiece
      idx_vars x
      pointwise
  · rw [LoadRect.mem_set] at hm
    obtain ⟨j1, hj1, h1⟩ := hm 1
    have hx := (x 1).isLt
    change (x 1).val < 512 at hx
    change j1 < 512 at hj1
    change 512 * (n % 4) + 1 * (x 1).val = 512 * ((n + 1 + i) % 4) + 1 * j1 at h1
    omega

/-- After its first update a slab starts from where its last update ended. -/
theorem start_eq (n : ℕ) (hk : ¬ n + 4 < k0) :
    startAt lx lg lw lb la li v19 v23 v25 v26 k0 base h0 (n + 4) = endAt lx lg lw lb la li v19 v23 v25 v26 k0 base h0 n := by
  unfold startAt
  rw [show Nat.blt (n + 4) k0 = false from by
    rw [← Bool.not_eq_true]; intro h; exact hk (Nat.le_of_ble_eq_true h), stList_eq]
  refine Prod.ext ?_ ?_ <;>
  · show stRd _ _ _ = _
    unfold stRd
    rw [View.readCov_eq_canon']
    funext x
    refine stPiece_rd base _ n 3 (by decide) _ x ?_ ?_
    · show 0 + 1 * (x 0).val = (x 0).val; omega
    · show 512 * ((n + 4) % 4) + 1 * (x 1).val = 512 * (n % 4) + (x 1).val; omega

/-- Slab `j`'s state after `c` of the chunk's 128 steps. -/
def slabSeq (j : ℕ) (h : Vec Ideal S8x512 .f32 × Vec Ideal S8x512 .f32) : ℕ → Vec Ideal S8x512 .f32 × Vec Ideal S8x512 .f32
  | 0 => h
  | c + 1 => stepV (la j) (li j) (slabSeq j h c) (buRd lx lg lw lb v19 v23 (4 * (c / 16) + j) (c % 16) 0)
      (buRd lx lg lw lb v19 v23 (4 * (c / 16) + j) (c % 16) 1)

/-- Sixteen steps of a slab continue its sequence. -/
theorem hs_seq (hla : ∀ n, la n = la (n % 4)) (hli : ∀ n, li n = li (n % 4)) (n : ℕ)
    (h : Vec Ideal S8x512 .f32 × Vec Ideal S8x512 .f32) : ∀ t, t ≤ 16 →
    hs lx lg lw lb la li v19 v23 n (slabSeq lx lg lw lb la li v19 v23 (n % 4) h (16 * (n / 4))) t =
      slabSeq lx lg lw lb la li v19 v23 (n % 4) h (16 * (n / 4) + t)
  | 0, _ => rfl
  | t + 1, ht => by
    have e : slabSeq lx lg lw lb la li v19 v23 (n % 4) h (16 * (n / 4) + t + 1) =
        stepV (la (n % 4)) (li (n % 4)) (slabSeq lx lg lw lb la li v19 v23 (n % 4) h (16 * (n / 4) + t))
          (buRd lx lg lw lb v19 v23 (4 * ((16 * (n / 4) + t) / 16) + n % 4) ((16 * (n / 4) + t) % 16) 0)
          (buRd lx lg lw lb v19 v23 (4 * ((16 * (n / 4) + t) / 16) + n % 4) ((16 * (n / 4) + t) % 16) 1) := rfl
    rw [show (16 * (n / 4) + t) / 16 = n / 4 by omega, show (16 * (n / 4) + t) % 16 = t by omega,
      show 4 * (n / 4) + n % 4 = n by omega, ← hla n, ← hli n, ← hs_seq hla hli n h t (by omega)] at e
    exact e.symm

/-- Every slab update is sixteen steps of its slab's sequence. -/
theorem end_seq (hla : ∀ n, la n = la (n % 4)) (hli : ∀ n, li n = li (n % 4)) (hk : k0 ≤ 4)
    (h : ℕ → Vec Ideal S8x512 .f32 × Vec Ideal S8x512 .f32)
    (hh : ∀ n, n < 4 → startAt lx lg lw lb la li v19 v23 v25 v26 k0 base h0 n = h n) (j : ℕ) (hj : j < 4) : ∀ q,
    endAt lx lg lw lb la li v19 v23 v25 v26 k0 base h0 (4 * q + j) =
      slabSeq lx lg lw lb la li v19 v23 j (h j) (16 * q + 16) := by
  have step : ∀ q, startAt lx lg lw lb la li v19 v23 v25 v26 k0 base h0 (4 * q + j) =
      slabSeq lx lg lw lb la li v19 v23 j (h j) (16 * q) → endAt lx lg lw lb la li v19 v23 v25 v26 k0 base h0 (4 * q + j) =
      slabSeq lx lg lw lb la li v19 v23 j (h j) (16 * q + 16) := fun q e => by
    unfold endAt
    rw [e]
    have := hs_seq lx lg lw lb la li v19 v23 hla hli (4 * q + j) (h j) 16 (Nat.le_refl _)
    rwa [show (4 * q + j) % 4 = j by omega, show (4 * q + j) / 4 = q by omega] at this
  intro q
  induction q with
  | zero => exact step 0 (by rw [show 4 * 0 + j = j by omega, hh j hj]; rfl)
  | succ q ih =>
    refine step (q + 1) ?_
    rw [show 4 * (q + 1) + j = 4 * q + j + 4 by omega, start_eq _ _ _ _ _ _ _ _ _ _ _ _ _ _ (by omega), ih]
    rfl

/-- What the point leaves in the state scratches: every slab's sequence after the chunk's 128 steps. -/
theorem st_final (hla : ∀ n, la n = la (n % 4)) (hli : ∀ n, li n = li (n % 4)) (hk : k0 ≤ 4)
    (h : ℕ → Vec Ideal S8x512 .f32 × Vec Ideal S8x512 .f32)
    (hh : ∀ n, n < 4 → startAt lx lg lw lb la li v19 v23 v25 v26 k0 base h0 n = h n) (b : Fin 8) (j : Fin 4) (p : Fin 512) :
    View.canon (stList lx lg lw lb la li v19 v23 v25 v26 k0 base h0 32).1 (ix2 b (st j p)) =
      (slabSeq lx lg lw lb la li v19 v23 j.val (h j.val) 128).1 (ix2 b p) ∧
    View.canon (stList lx lg lw lb la li v19 v23 v25 v26 k0 base h0 32).2 (ix2 b (st j p)) =
      (slabSeq lx lg lw lb la li v19 v23 j.val (h j.val) 128).2 (ix2 b p) := by
  have e := end_seq lx lg lw lb la li v19 v23 v25 v26 k0 base h0 hla hli hk h hh j.val j.isLt 7
  have e32 : 32 = (4 * 7 + j.val) + 1 + (3 - j.val) := by omega
  rw [stList_eq]
  constructor
  · refine Eq.trans ?_ (congrFun (congrArg Prod.fst e) (ix2 b p))
    conv_lhs => rw [e32]
    refine stPiece_rd base _ (4 * 7 + j.val) (3 - j.val) (by omega) _ (ix2 b p) rfl ?_
    show j.val * 512 + p.val = 512 * ((4 * 7 + j.val) % 4) + p.val; omega
  · refine Eq.trans ?_ (congrFun (congrArg Prod.snd e) (ix2 b p))
    conv_lhs => rw [e32]
    refine stPiece_rd base _ (4 * 7 + j.val) (3 - j.val) (by omega) _ (ix2 b p) rfl ?_
    show j.val * 512 + p.val = 512 * ((4 * 7 + j.val) % 4) + p.val; omega

end Stores
end Cert.PromptMix
-- ==== Proof.PromptKernel.lean ====
/- The recurrence over the whole sequence, as the kernel's grid points carry it. -/
module

public import proofs.«01_k».proof.Proof.PromptStores
public import proofs.«01_k».proof.Proof.Gen.PromptIdeal.Value
public import Idealize.ShloMosaic.Lib.Pipeline.ValueKit
public import Idealize.ShloMosaic.Lib.Pipeline.ReadBack

@[expose] public section

set_option maxRecDepth 16384

noncomputable section

namespace Cert.PromptMix
open Idealize.ShloMosaic Idealize.SL.Sem Cert.PromptIdeal Cert.PromptIdeal.Gen Cert.Layer

variable (m : (ℓ : Loc nD τ sig) → Buf (Elt Ideal) ℓ) (c : Dev nD)

/-- Where each window's block lies: `x` and the first result follow the sequence, everything else is whole. -/
theorem idx : ∀ t : Fin cfg0.N, (win0_0.index t (0 : Fin 3) = 0 ∧ win0_0.index t (1 : Fin 3) = t.val ∧ win0_0.index t (2 : Fin 3) = 0) ∧
    (win0_1.index t (0 : Fin 2) = 0 ∧ win0_1.index t (1 : Fin 2) = 0) ∧
    (win0_2.index t (0 : Fin 2) = 0 ∧ win0_2.index t (1 : Fin 2) = 0) ∧
    (win0_7.index t (0 : Fin 2) = 0 ∧ win0_7.index t (1 : Fin 2) = 0) ∧
    (win0_8.index t (0 : Fin 2) = 0 ∧ win0_8.index t (1 : Fin 2) = 0) ∧
    (win0_9.index t (0 : Fin 3) = 0 ∧ win0_9.index t (1 : Fin 3) = 0 ∧ win0_9.index t (2 : Fin 3) = 0) := by decide +kernel

/-- A load of part of a whole buffer reads the buffer there. -/
theorem rd_unread {s : Shape} {e : EltTy} {sp : Space} (M : Memref sig .tc sp s e) (h : M.IsWhole) (x : Vec Ideal s e) (r : Rect s)
    (y : r.shape.Idx) (z : s.Idx) (hz : r.emb y = z) :
    View.readAt (Elt Ideal) M.view r.toLoadRect (h.unread x) y = x z :=
  (congrFun (h.read_unread x) _).trans (congrArg x hz)

/-- The row of batch `b` at position `l` of the sequence. -/
def xrow (b : Fin 8) (l : ℕ) (k : Fin 1024) : EReal :=
  m ((c.tc : Thread nD τ).loc main_arg0) (ix3 b ⟨l % 2048, Nat.mod_lt _ (by decide)⟩ k)

/-- That row after the norm and the input projection. -/
def zrow (b : Fin 8) (l : ℕ) : Fin 4608 → EReal :=
  proj (xrow m c b l) (fun k => m ((c.tc : Thread nD τ).loc main_arg1) (ix2 0 k))
    (fun k n => m ((c.tc : Thread nD τ).loc main_arg2) (ix2 k n))

/-- What that row gives to the recurrence of block `q`. -/
def inRow (b : Fin 8) (l : ℕ) (q : Fin 4) : Fin 1024 → EReal :=
  input (chans (zrow m c b l)) (fun q k p => m ((c.tc : Thread nD τ).loc main_arg9) (ix3 q k p)) q

/-- The state of batch `b` in block `q`, channel `p`, after the first `l` positions. -/
def state (b : Fin 8) (q : Fin 4) (p : Fin 512) (l : ℕ) : EReal × EReal :=
  scan (m ((c.tc : Thread nD τ).loc main_arg7) (ix2 b (st q p))) (m ((c.tc : Thread nD τ).loc main_arg8) (ix2 b (st q p)))
    (fun l => inRow m c b l q (lo p)) (fun l => inRow m c b l q (hi p)) l

section AtPoint
variable (t : Fin cfg0.N)

/-- There are sixteen points. -/
theorem tlt : t.val < 16 := lt_of_lt_of_eq t.isLt (show cfg0.N = 16 from N_0)

/-- The loaded rows of `x`. -/
abbrev LX := xAt (ms0_0 t) (hs0_0 t) (iblk m c 0 t)
/-- The loaded scale of the norm. -/
abbrev LG := gAt (ms0_1 t) (hs0_1 t) (iblk m c 1 t)
/-- The loaded columns of the input projection. -/
abbrev LW := wAt (ms0_2 t) (hs0_2 t) (iblk m c 2 t)
/-- The loaded input matrices. -/
abbrev LB := bAt (ms0_9 t) (hs0_9 t) (iblk m c 9 t)
/-- The loaded decay, real part. -/
abbrev LA := slabAt (ms0_7 t) (hs0_7 t) (iblk m c 7 t)
/-- The loaded decay, imaginary part. -/
abbrev LI := slabAt (ms0_8 t) (hs0_8 t) (iblk m c 8 t)

/-- The loaded rows are the point's rows of `x`. -/
theorem lx_val (b : Fin 8) (r : Fin 128) (k : Fin 1024) : LX m c t b.val (ix3 0 r k) = xrow m c b (128 * t.val + r.val) k := by
  have ht := tlt t
  refine (rd_unread _ _ _ _ _ (ix3 b r k) (funext fun a => Fin.ext ?_)).trans ?_
  · match a with
    | ⟨0, _⟩ => show b.val % 8 + 1 * 0 = b.val; omega
    | ⟨1, _⟩ => show 0 + 1 * r.val = r.val; omega
    | ⟨2, _⟩ => show 0 + 1 * k.val = k.val; omega
  · unfold xrow
    rw [show (⟨(128 * t.val + r.val) % 2048, Nat.mod_lt _ (by decide)⟩ : Fin 2048) = ⟨128 * t.val + r.val, by omega⟩ from
      Fin.ext (Nat.mod_eq_of_lt (by omega))]
    blk_ext [iblk, V_main_arg0, idx t]

/-- The loaded scale is the argument. -/
theorem lg_val (k : Fin 1024) : LG m c t (ix2 0 k) = m ((c.tc : Thread nD τ).loc main_arg1) (ix2 0 k) := by
  refine (rd_unread _ _ _ _ _ (ix2 0 k) (funext fun a => Fin.ext ?_)).trans ?_
  · match a with
    | ⟨0, _⟩ => rfl
    | ⟨1, _⟩ => show 0 + 1 * k.val = k.val; omega
  · blk_ext [iblk, V_main_arg1, idx t]

/-- The loaded columns are those of the channels. -/
theorem lw_val (k : Fin 1024) (n : Fin 512) :
    LW m c t (ix2 k n) = m ((c.tc : Thread nD τ).loc main_arg2) (ix2 k ⟨2048 + n.val, by omega⟩) := by
  refine (rd_unread _ _ _ _ _ (ix2 k ⟨2048 + n.val, by omega⟩) (funext fun a => Fin.ext ?_)).trans ?_
  · match a with
    | ⟨0, _⟩ => show 0 + 1 * k.val = k.val; omega
    | ⟨1, _⟩ => show 2048 + 1 * n.val = 2048 + n.val; omega
  · blk_ext [iblk, V_main_arg2, idx t]

/-- The loaded input matrices are the argument's. -/
theorem lb_val (n : ℕ) (q : Fin 4) (hq : n % 4 = q.val) (k : Fin 128) (p : Fin 1024) :
    LB m c t n (ix3 0 k p) = m ((c.tc : Thread nD τ).loc main_arg9) (ix3 q k p) := by
  refine (rd_unread _ _ _ _ _ (ix3 q k p) (funext fun a => Fin.ext ?_)).trans ?_
  · match a with
    | ⟨0, _⟩ => show n % 4 + 1 * 0 = q.val; omega
    | ⟨1, _⟩ => show 0 + 1 * k.val = k.val; omega
    | ⟨2, _⟩ => show 0 + 1 * p.val = p.val; omega
  · blk_ext [iblk, V_main_arg9, idx t]

/-- A slab of a state-shaped buffer, entry by entry. -/
theorem slab_val (M : Memref sig .tc .vmem S8x2048 .f32) (h : M.IsWhole) (x : Vec Ideal S8x2048 .f32) (q : Fin 4) (b : Fin 8)
    (p : Fin 512) : slabAt M h x q.val (ix2 b p) = x (ix2 b (st q p)) := by
  refine rd_unread _ _ _ _ _ _ (funext fun a => Fin.ext ?_)
  match a with
  | ⟨0, _⟩ => show 0 + 1 * b.val = b.val; omega
  | ⟨1, _⟩ => show 512 * (q.val % 4) + 1 * p.val = q.val * 512 + p.val; omega

/-- The slabs repeat after four. -/
theorem slab_mod (M : Memref sig .tc .vmem S8x2048 .f32) (h : M.IsWhole) (x : Vec Ideal S8x2048 .f32) (n : ℕ) :
    slabAt M h x n = slabAt M h x (n % 4) := by
  funext y
  refine (rd_unread _ _ _ _ _ _ rfl).trans (rd_unread _ _ _ _ _ _ (funext fun a => Fin.ext ?_)).symm
  match a with
  | ⟨0, _⟩ => rfl
  | ⟨1, _⟩ => show 512 * (n % 4 % 4) + 1 * (y 1).val = 512 * (n % 4) + 1 * (y 1).val; omega

/-- The loaded decay is the argument, real part. -/
theorem la_val (q : Fin 4) (b : Fin 8) (p : Fin 512) :
    LA m c t q.val (ix2 b p) = m ((c.tc : Thread nD τ).loc main_arg7) (ix2 b (st q p)) := by
  refine (slab_val _ _ _ q b p).trans ?_
  blk_ext [iblk, V_main_arg7, idx t]

/-- The loaded decay is the argument, imaginary part. -/
theorem li_val (q : Fin 4) (b : Fin 8) (p : Fin 512) :
    LI m c t q.val (ix2 b p) = m ((c.tc : Thread nD τ).loc main_arg8) (ix2 b (st q p)) := by
  refine (slab_val _ _ _ q b p).trans ?_
  blk_ext [iblk, V_main_arg8, idx t]

/-- The state-space channels of a row of the chunk. -/
theorem chanAt_val (b : Fin 8) (r : Fin 128) (n : Fin 512) :
    chanAt (LX m c t) (LG m c t) (LW m c t) b.val r n = chans (zrow m c b (128 * t.val + r.val)) n := by
  unfold chanAt
  simp only [lx_val, lg_val, lw_val]
  rfl

variable {κ : Kind} {sp : Space} (v19 : View sig κ sp S4x1024x128 .f32) (v23 : View sig κ sp S2x4x128x1024 .f32)
variable (v25 v26 : View sig κ sp S8x2048 .f32)

/-- What the recurrence of block `q` reads at step `r` of the chunk. -/
theorem bu_val (q : Fin 4) (r : Fin 128) (h : ℕ) (hh : h < 2) (b : Fin 8) (p : Fin 512) :
    buRd (LX m c t) (LG m c t) (LW m c t) (LB m c t) v19 v23 (4 * (r.val / 16) + q.val) (r.val % 16) h (ix4 0 0 b p) =
      inRow m c b (128 * t.val + r.val) q ⟨512 * h + p.val, by omega⟩ := by
  rw [buRd_val _ _ _ _ _ _ _ (by omega) _ _ (by omega) hh]
  unfold inRow input
  refine Finset.sum_congr rfl fun k _ => ?_
  rw [lb_val m c t (4 * (r.val / 16) + q.val) q (by omega) k]
  refine congrArg (· * _) ?_
  refine Eq.trans ?_ (chanAt_val m c t b r (chan q k))
  refine congrArg₂ (chanAt (LX m c t) (LG m c t) (LW m c t) b.val) (Fin.ext ?_) (Fin.ext ?_)
  · show 16 * ((4 * (r.val / 16) + q.val) / 4) + r.val % 16 = r.val; omega
  · show 128 * ((4 * (r.val / 16) + q.val) % 4) + k.val = q.val * 128 + k.val; omega

/-- One step on a slab, real part. -/
theorem stepV_re (a i : Vec Ideal S8x512 .f32) (h : Vec Ideal S8x512 .f32 × Vec Ideal S8x512 .f32) (br bi : Vec Ideal S1x1x8x512 .f32)
    (b : Fin 8) (p : Fin 512) : (stepV a i h br bi).1 (ix2 b p) =
      stepRe (a (ix2 b p)) (i (ix2 b p)) (h.1 (ix2 b p)) (h.2 (ix2 b p)) (br (ix4 0 0 b p)) := by
  unfold stepV
  pointwise
  rfl

/-- One step on a slab, imaginary part. -/
theorem stepV_im (a i : Vec Ideal S8x512 .f32) (h : Vec Ideal S8x512 .f32 × Vec Ideal S8x512 .f32) (br bi : Vec Ideal S1x1x8x512 .f32)
    (b : Fin 8) (p : Fin 512) : (stepV a i h br bi).2 (ix2 b p) =
      stepIm (a (ix2 b p)) (i (ix2 b p)) (h.1 (ix2 b p)) (h.2 (ix2 b p)) (bi (ix4 0 0 b p)) := by
  unfold stepV
  pointwise
  rfl

/-- A slab's sequence over the chunk goes on with the state of the sequence. -/
theorem slab_state (q : Fin 4) (b : Fin 8) (p : Fin 512) (h : Vec Ideal S8x512 .f32 × Vec Ideal S8x512 .f32)
    (h0 : (h.1 (ix2 b p), h.2 (ix2 b p)) = state m c b q p (128 * t.val)) : ∀ r, r ≤ 128 →
    ((slabSeq (LX m c t) (LG m c t) (LW m c t) (LB m c t) (LA m c t) (LI m c t) v19 v23 q.val h r).1 (ix2 b p),
     (slabSeq (LX m c t) (LG m c t) (LW m c t) (LB m c t) (LA m c t) (LI m c t) v19 v23 q.val h r).2 (ix2 b p)) =
      state m c b q p (128 * t.val + r)
  | 0, _ => h0
  | r + 1, hr => by
    have ih := slab_state q b p h h0 r (by omega)
    have i1 := congrArg Prod.fst ih
    have i2 := congrArg Prod.snd ih
    dsimp only at i1 i2
    unfold slabSeq
    rw [stepV_re, stepV_im, i1, i2, la_val, li_val]
    have e0 := bu_val m c t v19 v23 q ⟨r, by omega⟩ 0 (by decide) b p
    have e1 := bu_val m c t v19 v23 q ⟨r, by omega⟩ 1 (by decide) b p
    dsimp only at e0 e1
    rw [e0, e1, show (⟨512 * 0 + p.val, by omega⟩ : Fin 1024) = lo p from Fin.ext (by show 512 * 0 + p.val = p.val; omega),
      show (⟨512 * 1 + p.val, by omega⟩ : Fin 1024) = hi p from rfl]
    rfl

/-- What point `t` stores into the two state scratches. -/
abbrev stores (k0 : ℕ) (base : List (View.Piece (Elt Ideal) S8x2048 .f32)) (h0 : ℕ → Vec Ideal S8x512 .f32 × Vec Ideal S8x512 .f32) :=
  stList (LX m c t) (LG m c t) (LW m c t) (LB m c t) (LA m c t) (LI m c t) scM0_0.view scM0_4.view scM0_6.view scM0_7.view k0 base h0

/-- What each slab starts from at point `t`. -/
abbrev starts (k0 : ℕ) (base : List (View.Piece (Elt Ideal) S8x2048 .f32)) (h0 : ℕ → Vec Ideal S8x512 .f32 × Vec Ideal S8x512 .f32) :=
  startAt (LX m c t) (LG m c t) (LW m c t) (LB m c t) (LA m c t) (LI m c t) scM0_0.view scM0_4.view scM0_6.view scM0_7.view k0 base h0

/-- The first point's store of zero. -/
abbrev zeroed : List (View.Piece (Elt Ideal) S8x2048 .f32) :=
  [⟨Rect.unit (s := S8x2048) ![0, 0] S8x2048.size inb_S8x2048_S8x2048_0_0, k0_pay4 (F := Ideal)⟩]

/-- The slabs of the states that the scratches hold. -/
abbrev held (x y : Vec Ideal S8x2048 .f32) (n : ℕ) : Vec Ideal S8x512 .f32 × Vec Ideal S8x512 .f32 :=
  (slabAt scM0_6 (Memref.isWhole_whole _) x n, slabAt scM0_7 (Memref.isWhole_whole _) y n)

/-- If every slab starts from the state at the chunk's first position, the scratches are left at the state after it. -/
theorem stores_state (k0 : ℕ) (base : List (View.Piece (Elt Ideal) S8x2048 .f32))
    (h0 : ℕ → Vec Ideal S8x512 .f32 × Vec Ideal S8x512 .f32) (hk : k0 ≤ 4)
    (hs : ∀ (q : Fin 4) (b : Fin 8) (p : Fin 512), ((starts m c t k0 base h0 q.val).1 (ix2 b p), (starts m c t k0 base h0 q.val).2 (ix2 b p)) =
      state m c b q p (128 * t.val)) (b : Fin 8) (q : Fin 4) (p : Fin 512) :
    (View.canon (stores m c t k0 base h0 32).1 (ix2 b (st q p)), View.canon (stores m c t k0 base h0 32).2 (ix2 b (st q p))) =
      state m c b q p (128 * t.val + 128) := by
  obtain ⟨e1, e2⟩ := st_final (LX m c t) (LG m c t) (LW m c t) (LB m c t) (LA m c t) (LI m c t) scM0_0.view scM0_4.view scM0_6.view
    scM0_7.view k0 base h0 (fun n => slab_mod _ _ _ n) (fun n => slab_mod _ _ _ n) hk (starts m c t k0 base h0) (fun _ _ => rfl) b q p
  rw [e1, e2]
  exact slab_state m c t _ _ q b p _ (hs q b p) 128 (Nat.le_refl _)

/-- What the first point leaves in the state scratches. -/
theorem left_A (h0 : t.val % 16 = 0) (h1 : ¬t.val % 16 = 15) : (outsAt0 m c t.val t.isLt).2.2.2 =
    (View.canon (stores m c t 0 zeroed (fun _ => (fun _ => Scalar.ofBits (F := Ideal) .f32 0#32, fun _ => Scalar.ofBits (F := Ideal) .f32 0#32)) 32).1,
     View.canon (stores m c t 0 zeroed (fun _ => (fun _ => Scalar.ofBits (F := Ideal) .f32 0#32, fun _ => Scalar.ofBits (F := Ideal) .f32 0#32)) 32).2) := by
  rw [outsAt0_A m c t h0 h1]
  dsimp only
  unfold sout0_A_6 sout0_A_7
  refine Prod.ext ?_ ?_ <;> dsimp only <;> refine (View.read_writes_junk_eq_canon _ _).trans (congrArg View.canon ?_)
  · exact run_A_re ..
  · exact run_A_im ..

/-- What the point before left in the state scratches. -/
abbrev prev := (outsAt0 m c (t.val - 1) (Nat.lt_of_le_of_lt (Nat.sub_le _ _) t.isLt)).2.2.2

/-- What an inner point leaves there. -/
theorem left_B (h0 : ¬t.val % 16 = 0) (h1 : ¬t.val % 16 = 15) : (outsAt0 m c t.val t.isLt).2.2.2 =
    (View.canon (stores m c t 4 [] (held (prev m c t).1 (prev m c t).2) 32).1,
     View.canon (stores m c t 4 [] (held (prev m c t).1 (prev m c t).2) 32).2) := by
  rw [outsAt0_B m c t h0 h1]
  dsimp only
  unfold sout0_B_6 sout0_B_7
  refine Prod.ext ?_ ?_ <;> dsimp only <;> refine (View.read_writes_junk_eq_canon _ _).trans (congrArg View.canon ?_)
  · exact run_B_re ..
  · exact run_B_im ..

/-- What the last point leaves there. -/
theorem left_C (h0 : ¬t.val % 16 = 0) (h1 : t.val % 16 = 15) : (outsAt0 m c t.val t.isLt).2.2.2 =
    (View.canon (stores m c t 4 [] (held (prev m c t).1 (prev m c t).2) 32).1,
     View.canon (stores m c t 4 [] (held (prev m c t).1 (prev m c t).2) 32).2) := by
  rw [outsAt0_C m c t h0 h1]
  dsimp only
  unfold sout0_C_6 sout0_C_7
  refine Prod.ext ?_ ?_ <;> dsimp only <;> refine (View.read_writes_junk_eq_canon _ _).trans (congrArg View.canon ?_)
  · exact run_C_re ..
  · exact run_C_im ..

/-- An index that no store covers reads what was there before. -/
theorem canon_base {s : Shape} {e : EltTy} (base : List (View.Piece (Elt Ideal) s e)) (p : ℕ → View.Piece (Elt Ideal) s e) (y : s.Idx) :
    ∀ n : ℕ, (∀ i, i < n → y ∉ (p i).1.set) → View.canon (stack base p n) y = View.canon base y
  | 0, _ => rfl
  | n + 1, h => (View.canon_cons_of_not_mem _ _ (h n (Nat.lt_succ_self n))).trans (canon_base base p y n fun i hi => h i (Nat.lt_succ_of_lt hi))

/-- The store of zero leaves zero. -/
theorem zeroed_val (y : S8x2048.Idx) : View.canon zeroed y = (0 : EReal) := by
  have e : (Rect.unit (s := S8x2048) ![0, 0] S8x2048.size inb_S8x2048_S8x2048_0_0).emb y = y := funext fun a => Fin.ext (by
    match a with
    | ⟨0, _⟩ => show 0 + 1 * (y 0).val = (y 0).val; omega
    | ⟨1, _⟩ => show 0 + 1 * (y 1).val = (y 1).val; omega)
  refine (congrArg (View.canon zeroed) e.symm).trans ((View.canon_cons_emb _ _ _ _).trans ?_)
  idx_vars y
  pointwise [k0_pay4]

/-- The first point starts every slab from zero. -/
theorem starts_A (h0 : ℕ → Vec Ideal S8x512 .f32 × Vec Ideal S8x512 .f32) (q : Fin 4) (b : Fin 8) (p : Fin 512) :
    ((starts m c t 0 zeroed h0 q.val).1 (ix2 b p), (starts m c t 0 zeroed h0 q.val).2 (ix2 b p)) = ((0, 0) : EReal × EReal) := by
  have e : starts m c t 0 zeroed h0 q.val = (stRd scM0_6.view (stores m c t 0 zeroed h0 q.val).1 q.val,
      stRd scM0_7.view (stores m c t 0 zeroed h0 q.val).2 q.val) := rfl
  have key (v : View sig .tc .vmem S8x2048 .f32) (H : ℕ → Vec Ideal S8x512 .f32) :
      stRd v (stack zeroed (stPiece H) q.val) q.val (ix2 b p) = (0 : EReal) := by
    unfold stRd
    rw [View.readCov_eq_canon']
    refine (canon_base _ _ _ _ fun i hi hm => ?_).trans (zeroed_val _)
    rw [LoadRect.mem_set] at hm
    obtain ⟨j1, hj1, h1⟩ := hm 1
    change j1 < 512 at hj1
    change 512 * (q.val % 4) + 1 * p.val = 512 * (i % 4) + 1 * j1 at h1
    omega
  rw [e, stores, stList_eq]
  dsimp only
  rw [key, key]

/-- The other points start every slab from what the scratches hold. -/
theorem starts_B (x y : Vec Ideal S8x2048 .f32) (q : Fin 4) (b : Fin 8) (p : Fin 512) :
    ((starts m c t 4 [] (held x y) q.val).1 (ix2 b p), (starts m c t 4 [] (held x y) q.val).2 (ix2 b p)) =
      (x (ix2 b (st q p)), y (ix2 b (st q p))) := by
  have e : starts m c t 4 [] (held x y) q.val = held x y q.val := by
    unfold starts startAt
    rw [show Nat.blt q.val 4 = true from Nat.blt_eq.mpr q.isLt]
    rfl
  rw [e]
  dsimp only [held]
  rw [slab_val, slab_val]

end AtPoint

/-- The two scratches hold the state after the first `l` positions. -/
def HoldsState (z : Vec Ideal S8x2048 .f32 × Vec Ideal S8x2048 .f32) (l : ℕ) : Prop :=
  ∀ (b : Fin 8) (q : Fin 4) (p : Fin 512), (z.1 (ix2 b (st q p)), z.2 (ix2 b (st q p))) = state m c b q p l

/-- `HoldsState` of equal contents. -/
theorem holds_of (z z' : Vec Ideal S8x2048 .f32 × Vec Ideal S8x2048 .f32) (l : ℕ) (e : z = z') (h : HoldsState m c z' l) :
    HoldsState m c z l := e ▸ h

/-- `HoldsState` from its entries. -/
theorem holds_intro (x y : Vec Ideal S8x2048 .f32) (l : ℕ)
    (h : ∀ (b : Fin 8) (q : Fin 4) (p : Fin 512), (x (ix2 b (st q p)), y (ix2 b (st q p))) = state m c b q p l) :
    HoldsState m c (x, y) l := h

/-- If every slab starts from the state, the stores leave the state after the chunk. -/
theorem holds_stores (t : Fin cfg0.N) (k0 : ℕ) (base : List (View.Piece (Elt Ideal) S8x2048 .f32))
    (h0 : ℕ → Vec Ideal S8x512 .f32 × Vec Ideal S8x512 .f32) (hk : k0 ≤ 4)
    (hs : ∀ (q : Fin 4) (b : Fin 8) (p : Fin 512), ((starts m c t k0 base h0 q.val).1 (ix2 b p), (starts m c t k0 base h0 q.val).2 (ix2 b p)) =
      state m c b q p (128 * t.val)) :
    HoldsState m c (View.canon (stores m c t k0 base h0 32).1, View.canon (stores m c t k0 base h0 32).2) (128 * t.val + 128) :=
  holds_intro m c _ _ _ (stores_state m c t k0 base h0 hk hs)

/-- The first point leaves the state after the first chunk. -/
theorem holds_A (t : Fin cfg0.N) (h0 : t.val = 0) : HoldsState m c (outsAt0 m c t.val t.isLt).2.2.2 (128 * t.val + 128) := by
  have hA : t.val % 16 = 0 := by rw [h0]
  have hB : ¬t.val % 16 = 15 := by rw [h0]; decide
  have e := left_A m c t hA hB
  refine holds_of m c _ _ _ e ?_
  refine holds_stores m c t 0 zeroed _ (by decide) ?_
  intro q b p
  rw [starts_A m c t _ q b p, show 128 * t.val = 0 by omega]
  rfl

/-- Every later point carries the state on by one chunk. -/
theorem holds_B (t : Fin cfg0.N) (h0 : t.val ≠ 0) (hp : HoldsState m c (prev m c t) (128 * t.val)) :
    HoldsState m c (outsAt0 m c t.val t.isLt).2.2.2 (128 * t.val + 128) := by
  have ht := tlt t
  have hA : ¬t.val % 16 = 0 := by omega
  have e : (outsAt0 m c t.val t.isLt).2.2.2 = (View.canon (stores m c t 4 [] (held (prev m c t).1 (prev m c t).2) 32).1,
         View.canon (stores m c t 4 [] (held (prev m c t).1 (prev m c t).2) 32).2) :=
    (Classical.em (t.val % 16 = 15)).elim (fun h1 => left_C m c t hA h1) (fun h1 => left_B m c t hA h1)
  refine holds_of m c _ _ _ e ?_
  refine holds_stores m c t 4 [] _ (Nat.le_refl _) ?_
  intro q b p
  rw [starts_B m c t _ _ q b p]
  exact hp b q p

/-- After every point the scratches hold the state at the end of its chunk. -/
theorem carried : ∀ (n : ℕ) (hn : n < cfg0.N), HoldsState m c (outsAt0 m c n hn).2.2.2 (128 * n + 128)
  | 0, hn => holds_A m c ⟨0, hn⟩ rfl
  | n + 1, hn => holds_B m c ⟨n + 1, hn⟩ (Nat.succ_ne_zero n) (carried n (Nat.lt_of_succ_lt hn))

/-- The last grid point. -/
def last : Fin cfg0.N := ⟨15, lt_of_lt_of_eq (by decide) (show 16 = cfg0.N from N_0.symm)⟩

/-- A whole-buffer copy of what a scratch holds. -/
theorem copied (v : View sig .tc .vmem S8x2048 .f32) (L : List (View.Piece (Elt Ideal) S8x2048 .f32)) (y : S8x2048.Idx) :
    View.canon [⟨Rect.unit (s := S8x2048) ![0, 0] S8x2048.size inb_S8x2048_S8x2048_0_0,
      v.readCov L (Rect.unit (s := S8x2048) ![0, 0] S8x2048.size inb_S8x2048_S8x2048_0_0).toLoadRect⟩] y = View.canon L y := by
  have e : (Rect.unit (s := S8x2048) ![0, 0] S8x2048.size inb_S8x2048_S8x2048_0_0).emb y = y := funext fun a => Fin.ext (by
    match a with
    | ⟨0, _⟩ => show 0 + 1 * (y 0).val = (y 0).val; omega
    | ⟨1, _⟩ => show 0 + 1 * (y 1).val = (y 1).val; omega)
  refine (congrArg (View.canon _) e.symm).trans ((View.canon_cons_emb _ _ _ _).trans ?_)
  rw [View.readCov_eq_canon']
  exact congrArg (View.canon L) e

/-- The last point copies the state scratches into the second and third results. -/
theorem last_out (t : Fin cfg0.N) (h0 : ¬t.val % 16 = 0) (h1 : t.val % 16 = 15) :
    (outsAt0 m c t.val t.isLt).2.1 = (outsAt0 m c t.val t.isLt).2.2.2.1 ∧
    (outsAt0 m c t.val t.isLt).2.2.1 = (outsAt0 m c t.val t.isLt).2.2.2.2 := by
  rw [outsAt0_C m c t h0 h1]
  dsimp only
  unfold out0_C_16 out0_C_17 sout0_C_6 sout0_C_7
  constructor <;> refine (View.read_writes_junk_eq_canon _ _).trans (Eq.trans ?_ (View.read_writes_junk_eq_canon _ _).symm)
  · exact (congrArg View.canon (run_C_hre ..)).trans (funext fun y => copied _ _ y)
  · exact (congrArg View.canon (run_C_him ..)).trans (funext fun y => copied _ _ y)

/-- The second result: the real part of the state after the whole sequence. -/
theorem arr16 : (dats m 0 c).arrAt 16 cfg0.N = fun y => (state m c (y 0) ⟨(y 1).val / 512, Nat.div_lt_of_lt_mul (y 1).isLt⟩
    ⟨(y 1).val % 512, Nat.mod_lt _ (by decide)⟩ 2048).1 := by
  refine (dats m 0 c).arrAt_eq_of_after_last 16 last (by decide +kernel) _ fun j => ?_
  blk_simp
  rw [after0_16, (last_out m c last (by decide) (by decide)).1]
  have e := congrArg Prod.fst (carried m c last.val last.isLt (j 0) ⟨(j 1).val / 512, Nat.div_lt_of_lt_mul (j 1).isLt⟩
    ⟨(j 1).val % 512, Nat.mod_lt _ (by decide)⟩)
  idx_vars j
  rw [st_divmod] at e
  exact e

/-- The third result: the imaginary part. -/
theorem arr17 : (dats m 0 c).arrAt 17 cfg0.N = fun y => (state m c (y 0) ⟨(y 1).val / 512, Nat.div_lt_of_lt_mul (y 1).isLt⟩
    ⟨(y 1).val % 512, Nat.mod_lt _ (by decide)⟩ 2048).2 := by
  refine (dats m 0 c).arrAt_eq_of_after_last 17 last (by decide +kernel) _ fun j => ?_
  blk_simp
  rw [after0_17, (last_out m c last (by decide) (by decide)).2]
  have e := congrArg Prod.snd (carried m c last.val last.isLt (j 0) ⟨(j 1).val / 512, Nat.div_lt_of_lt_mul (j 1).isLt⟩
    ⟨(j 1).val % 512, Nat.mod_lt _ (by decide)⟩)
  idx_vars j
  rw [st_divmod] at e
  exact e

end Cert.PromptMix
end
-- ==== Proof.PromptRef.lean ====
/- What the reference of the prompt's states computes: the input to the recurrence entry by entry, and the loop as the
   recurrence of the specification; and the claim: the two programs' states after the prompt are equal over the extended
   reals. -/
module

public import proofs.«01_k».proof.Defs
public import proofs.«01_k».proof.Proof.PromptKernel
public import proofs.«01_k».proof.Proof.Gen.PromptRefIdeal.StepRun
public import proofs.«01_k».proof.Proof.Spec
public import Idealize.ShloMosaic.Lib.WordCmp

@[expose] public section

set_option maxRecDepth 16384

noncomputable section

namespace Cert.PromptMix

open Idealize.ShloMosaic Idealize.SL.Sem
open Cert.PromptRefIdeal Cert.PromptRefIdeal.Step Cert.Layer

variable (a0 : Vec Ideal S8x2048x1024 .f32) (a1 : Vec Ideal S1x1024 .f32) (a2 : Vec Ideal S1024x4608 .bf16)
  (a7 a8 : Vec Ideal S8x2048 .f32) (a9 : Vec Ideal S4x128x1024 .bf16)

/-- The normalised row. -/
theorem r13 (b : Fin 8) (l : Fin 2048) (k : Fin 1024) :
    A_main_v13 (F := Ideal) a0 a1 a2 a9 (ix3 b l k) = rms (fun k => a0 (ix3 b l k)) (fun k => a1 (ix2 0 k)) k := by
  pointwise [A_main_v13, A_main_v12, A_main_v11, A_main_v10, A_main_v9, A_main_v8, A_main_v7, A_main_v6, A_main_v4, A_main_v2,
    A_main_v1, A_main_v0, K_main_v3, K_main_v5, K_main_cst, K_main_cst_0, K_main_cst_1]
  rfl

/-- The channels that feed the recurrence. -/
theorem r16 (b : Fin 8) (l : Fin 2048) (k : Fin 512) : A_main_v16 (F := Ideal) a0 a1 a2 a9 (ix3 b l k) =
    chans (proj (fun k => a0 (ix3 b l k)) (fun k => a1 (ix2 0 k)) (fun k n => a2 (ix2 k n))) k := by
  pointwise [A_main_v16, A_main_v15, A_main_v14, r13]
  rfl

/-- What position `l` gives to the recurrence. -/
theorem r20 (l : Fin 2048) (b : Fin 8) (q : Fin 4) (p : Fin 1024) : A_main_v20 (F := Ideal) a0 a1 a2 a9 (ix4 l b q p) =
    input (chans (proj (fun k => a0 (ix3 b l k)) (fun k => a1 (ix2 0 k)) (fun k n => a2 (ix2 k n))))
      (fun q k p => a9 (ix3 q k p)) q p := by
  pointwise [A_main_v20, A_main_v19, A_main_v18, A_main_v17, r16]
  exact Finset.sum_congr rfl fun x _ => mul_comm _ _

/-- The states that the trips hand on. -/
def it : ℕ → State Ideal
  | 0 => Step.init a7 a8 a0 a1 a2 a9
  | n + 1 => step n (it n)

/-- No trip changes the inputs and the decay. -/
theorem it_in (n : ℕ) : (it a0 a1 a2 a7 a8 a9 n).main_v22_0 = A_main_v20 (F := Ideal) a0 a1 a2 a9 ∧
    (it a0 a1 a2 a7 a8 a9 n).main_v22_1 = a7 ∧ (it a0 a1 a2 a7 a8 a9 n).main_v22_2 = a8 := by
  induction n with
  | zero => exact ⟨rfl, rfl, rfl⟩
  | succ n ih => exact ih

/-- The slice of the inputs that trip `j` reads. -/
theorem b3_val (j : Fin 2048) (s : State Ideal) (b : Fin 8) (q : Fin 4) (p : Fin 1024) :
    b3 j.val s (ix4 0 b q p) = s.main_v22_0 (ix4 j b q p) := by
  have fit : S2048x8x4x1024.Slices ![j.val, 0, 0, 0] S1x8x4x1024 := ⟨rfl, fun a => by
    match a with
    | ⟨0, _⟩ => show j.val + 1 ≤ 2048; omega
    | ⟨1, _⟩ => show 0 + 8 ≤ 8; omega
    | ⟨2, _⟩ => show 0 + 4 ≤ 4; omega
    | ⟨3, _⟩ => show 0 + 1024 ≤ 1024; omega⟩
  refine (congrFun (WordCmp.dynamicSlice_eq_extract S1x8x4x1024 s.main_v22_0 _ _ ![j.val, 0, 0, 0] fit fun a => ?_) _).trans ?_
  · match a with
    | ⟨0, _⟩ => exact WordCmp.toInt_ofNat_of_lt (lt_of_lt_of_le j.isLt (by decide))
    | ⟨1, _⟩ => rfl
    | ⟨2, _⟩ => rfl
    | ⟨3, _⟩ => rfl
  · pointwise []

/-- That slice without its leading axis of one. -/
theorem b4_val (j : Fin 2048) (s : State Ideal) (b : Fin 8) (q : Fin 4) (p : Fin 1024) :
    b4 j.val s (ix3 b q p) = s.main_v22_0 (ix4 j b q p) := by
  rw [← b3_val]
  pointwise [b4]

/-- One trip is one step of the recurrence. -/
theorem trip (j : Fin 2048) (s : State Ideal) (b : Fin 8) (q : Fin 4) (p : Fin 512) :
    b10 j.val s (ix2 b (st q p)) = stepRe (s.main_v22_1 (ix2 b (st q p))) (s.main_v22_2 (ix2 b (st q p)))
        (s.main_v22_4 (ix2 b (st q p))) (s.main_v22_5 (ix2 b (st q p))) (s.main_v22_0 (ix4 j b q (lo p))) ∧
    b16 j.val s (ix2 b (st q p)) = stepIm (s.main_v22_1 (ix2 b (st q p))) (s.main_v22_2 (ix2 b (st q p)))
        (s.main_v22_4 (ix2 b (st q p))) (s.main_v22_5 (ix2 b (st q p))) (s.main_v22_0 (ix4 j b q (hi p))) := by
  rw [← b4_val, ← b4_val]
  constructor
  · pointwise [b10, b9, b8, b7, b6, b5, stepRe, st, lo]
  · pointwise [b16, b15, b14, b13, b12, b11, stepIm, st, hi]

/-- After `n` trips the loop holds the state that the recurrence reaches after `n` positions. -/
theorem it_scan (n : ℕ) (hn : n ≤ 2048) (b : Fin 8) (q : Fin 4) (p : Fin 512) (u v : ℕ → EReal)
    (hu : ∀ l : Fin 2048, u l.val = A_main_v20 (F := Ideal) a0 a1 a2 a9 (ix4 l b q (lo p)))
    (hv : ∀ l : Fin 2048, v l.val = A_main_v20 (F := Ideal) a0 a1 a2 a9 (ix4 l b q (hi p))) :
    ((it a0 a1 a2 a7 a8 a9 n).main_v22_4 (ix2 b (st q p)), (it a0 a1 a2 a7 a8 a9 n).main_v22_5 (ix2 b (st q p))) =
      scan (a7 (ix2 b (st q p))) (a8 (ix2 b (st q p))) u v n := by
  induction n with
  | zero =>
    refine Prod.ext ?_ ?_ <;> dsimp only [it, Step.init, Layer.scan] <;> pointwise [K_main_v21, K_main_cst_2]
  | succ n ih =>
    obtain ⟨e0, e1, e2⟩ := it_in a0 a1 a2 a7 a8 a9 n
    obtain ⟨t1, t2⟩ := trip ⟨n, hn⟩ (it a0 a1 a2 a7 a8 a9 n) b q p
    have h := ih (Nat.le_of_succ_le hn)
    have h1 := congrArg Prod.fst h
    have h2 := congrArg Prod.snd h
    dsimp only at h1 h2
    refine Prod.ext ?_ ?_
    · exact t1.trans (by rw [e0, e1, e2, h1, h2, ← hu ⟨n, hn⟩]; rfl)
    · exact t2.trans (by rw [e0, e1, e2, h1, h2, ← hv ⟨n, hn⟩]; rfl)

/-- The states that the trips hand on, from any memory. -/
abbrev its (m : (ℓ : Loc nD τ sig) → Buf (Elt Ideal) ℓ) (c : Dev nD) : ℕ → State Ideal :=
  it (m ((c.tc : Thread nD τ).loc main_arg0)) (m ((c.tc : Thread nD τ).loc main_arg1))
    (m ((c.tc : Thread nD τ).loc main_arg2)) (m ((c.tc : Thread nD τ).loc main_arg7)) (m ((c.tc : Thread nD τ).loc main_arg8))
    (m ((c.tc : Thread nD τ).loc main_arg9))

/-- The reference runs, leaves its arguments as they were, and ends with every counter at zero (it has none). -/
theorem frameRef : Cert.quiescent_PromptRefIdeal := fun m g _ =>
  (θ_run _ _ _).mono (fun r h => ⟨fun c => (h c).2.2, sem_eq_zero_of_no_sems (by decide) r.2⟩) (StepRun.run_iter m g (its m) (fun _ => rfl) (fun _ _ => rfl))

/-- The reference's state is the kernel's, entry by entry, where the two have the same arguments. -/
theorem state_tie (m : (ℓ : Loc Cert.PromptIdeal.nD Cert.PromptIdeal.τ Cert.PromptIdeal.sig) → Buf (Elt Ideal) ℓ)
    (c : Dev Cert.PromptIdeal.nD) (b : Fin 8) (q : Fin 4) (p : Fin 512) :
    ((it (m ((c.tc : Thread Cert.PromptIdeal.nD Cert.PromptIdeal.τ).loc Cert.PromptIdeal.main_arg0))
        (m ((c.tc : Thread Cert.PromptIdeal.nD Cert.PromptIdeal.τ).loc Cert.PromptIdeal.main_arg1))
        (m ((c.tc : Thread Cert.PromptIdeal.nD Cert.PromptIdeal.τ).loc Cert.PromptIdeal.main_arg2))
        (m ((c.tc : Thread Cert.PromptIdeal.nD Cert.PromptIdeal.τ).loc Cert.PromptIdeal.main_arg7))
        (m ((c.tc : Thread Cert.PromptIdeal.nD Cert.PromptIdeal.τ).loc Cert.PromptIdeal.main_arg8))
        (m ((c.tc : Thread Cert.PromptIdeal.nD Cert.PromptIdeal.τ).loc Cert.PromptIdeal.main_arg9)) 2048).main_v22_4 (ix2 b (st q p)),
     (it (m ((c.tc : Thread Cert.PromptIdeal.nD Cert.PromptIdeal.τ).loc Cert.PromptIdeal.main_arg0))
        (m ((c.tc : Thread Cert.PromptIdeal.nD Cert.PromptIdeal.τ).loc Cert.PromptIdeal.main_arg1))
        (m ((c.tc : Thread Cert.PromptIdeal.nD Cert.PromptIdeal.τ).loc Cert.PromptIdeal.main_arg2))
        (m ((c.tc : Thread Cert.PromptIdeal.nD Cert.PromptIdeal.τ).loc Cert.PromptIdeal.main_arg7))
        (m ((c.tc : Thread Cert.PromptIdeal.nD Cert.PromptIdeal.τ).loc Cert.PromptIdeal.main_arg8))
        (m ((c.tc : Thread Cert.PromptIdeal.nD Cert.PromptIdeal.τ).loc Cert.PromptIdeal.main_arg9)) 2048).main_v22_5 (ix2 b (st q p))) =
      state m c b q p 2048 := by
  refine it_scan _ _ _ _ _ _ 2048 (Nat.le_refl _) b q p _ _ (fun l => ?_) (fun l => ?_) <;>
  · rw [r20]
    unfold inRow zrow xrow
    rw [show (⟨l.val % 2048, Nat.mod_lt _ (by decide)⟩ : Fin 2048) = l from Fin.ext (Nat.mod_eq_of_lt l.isLt)]

/-- THE CLAIM: from memories that agree on the arguments, the idealized kernel and the idealized reference end with
    equal states. -/
theorem algebraic : Cert.algebraic_PromptIdeal_PromptRefIdeal (hPromptIdeal := Cert.PromptIdeal.Gen.facts)
    (hPromptRefIdeal := Cert.PromptRefIdeal.Gen.facts) := by
  intro m g m' g' _ hagree
  refine ⟨_, _, (θ_run _ _ _).mono (fun r h c => (h c).2) (Cert.PromptIdeal.Value.run_blocks m g), ?_⟩
  refine (θ_run _ _ _).mono (fun r h c => ?_)
    (StepRun.run_iter m' g' (its m') (fun _ => rfl) (fun _ _ => rfl))
  obtain ⟨e0, e1, e2, -, -, -, -, e7, e8, e9, -⟩ := hagree c
  obtain ⟨h0, h1, hk⟩ := h c
  refine ⟨h0.trans ?_, h1.trans ?_, hk⟩
  · rw [its, e0, e1, e2, e7, e8, e9, arr16]
    funext j; idx_vars j
    have e := congrArg Prod.fst (state_tie m c j0 ⟨j1.val / 512, by omega⟩ ⟨j1.val % 512, by omega⟩)
    rw [st_divmod] at e
    exact e
  · rw [its, e0, e1, e2, e7, e8, e9, arr17]
    funext j; idx_vars j
    have e := congrArg Prod.snd (state_tie m c j0 ⟨j1.val / 512, by omega⟩ ⟨j1.val % 512, by omega⟩)
    rw [st_divmod] at e
    exact e

end Cert.PromptMix

end
-- ==== Proof.PrepKernel.lean ====
/- What the one-off preparation kernel computes, entry by entry. -/
module

public import proofs.«01_k».proof.Proof.Gen.PrepIdeal.Value
public import Idealize.ShloMosaic.Lib.Pipeline.ValueKit

@[expose] public section

set_option maxRecDepth 16384

noncomputable section

namespace Cert.PrepMix

open Idealize.ShloMosaic
open Cert.PrepIdeal Cert.PrepIdeal.Gen

/-- The head that state `p` of slab `q` belongs to. -/
def head (q : Fin 4) (p : Fin 512) : Fin 32 := ⟨8 * q.val + p.val / 64, by omega⟩

/-- Its place among the head's 64 states. -/
def pos (p : Fin 512) : Fin 64 := ⟨p.val % 64, by omega⟩

/-- Eight rows side by side, read at a column. -/
theorem cat8 (P : Fin 8 → Vec Ideal S1x64 .f32) (h) (p : Fin 512) :
    concatenate S1x512 1 (List.ofFn fun n : Fin 8 => (⟨S1x64, P n⟩ : (s : Shape) × (s.Idx → _))) h (ix2 0 p) =
      P ⟨p.val / 64, by omega⟩ (ix2 0 (pos p)) :=
  concatenate_ofFn_apply (t := S1x512) (s₁ := S1x64) (1 : Fin 2) P h rfl 64 rfl (ix2 0 p) ⟨p.val / 64, by omega⟩ rfl
    (ix2 0 (pos p)) rfl fun b hb => match b with | ⟨0, _⟩ => rfl | ⟨1, _⟩ => absurd rfl hb

/-- Four rows stacked, read at an entry. -/
theorem cat4 (P : Fin 4 → Vec Ideal S1x512 .f32) (h) (q : Fin 4) (p : Fin 512) :
    concatenate S4x512 0 (List.ofFn fun n : Fin 4 => (⟨S1x512, P n⟩ : (s : Shape) × (s.Idx → _))) h (ix2 q p) =
      P q (ix2 0 p) :=
  concatenate_ofFn_apply (t := S4x512) (s₁ := S1x512) (0 : Fin 2) P h rfl 1 rfl (ix2 q p) q (Nat.div_one _)
    (ix2 0 p) (Nat.mod_one _).symm fun b hb => match b with | ⟨0, _⟩ => absurd rfl hb | ⟨1, _⟩ => rfl

/-- The 32 heads' rows as four slabs of eight, read at an entry. -/
theorem cat32 (P : Fin 32 → Vec Ideal S1x64 .f32) (q : Fin 4) (p : Fin 512) :
    k0_pay2 (F := Ideal) (P 0) (P 1) (P 2) (P 3) (P 4) (P 5) (P 6) (P 7) (P 8) (P 9) (P 10) (P 11) (P 12) (P 13) (P 14)
      (P 15) (P 16) (P 17) (P 18) (P 19) (P 20) (P 21) (P 22) (P 23) (P 24) (P 25) (P 26) (P 27) (P 28) (P 29) (P 30)
      (P 31) (ix2 q p) = P (head q p) (ix2 0 (pos p)) := by
  show concatenate S4x512 0 (List.ofFn fun n : Fin 4 => (⟨S1x512, concatenate S1x512 1 (List.ofFn fun k : Fin 8 =>
    (⟨S1x64, P ⟨8 * n.val + k.val, by omega⟩⟩ : (s : Shape) × (s.Idx → _)))
      concatenates_S1x64_S1x64_S1x64_S1x64_S1x64_S1x64_S1x64_S1x64_S1x512_d1⟩ : (s : Shape) × (s.Idx → _)))
      concatenates_S1x512_S1x512_S1x512_S1x512_S4x512_d0 (ix2 q p) = _
  exact (cat4 _ _ q p).trans (cat8 _ _ p)

/-- Row `h` of a 32-row array, as the kernel reads it. -/
def row (x : Vec Ideal S32x64 .f32) (h : Fin 32) : Vec Ideal S1x64 .f32 := fun y => x (ix2 h (y 1))

/-- A load of one row is that row. -/
theorem ld_row (x : Vec Ideal S32x64 .f32) (k : Nat) (hk : k < 32) (h) :
    View.ld x (Rect.unit (s := S32x64) ![k, 0] S1x64.size h) = row x ⟨k, hk⟩ := by
  funext y
  show x _ = x _
  congr 1
  funext a
  have h0 : (y 0).val < 1 := (y 0).isLt
  fin_cases a
  · apply Fin.ext; show k + 1 * (y 0).val = k; omega
  · apply Fin.ext; show 0 + 1 * (y 1).val = (y 1).val; omega

variable (x0 x1 : Vec Ideal S32x64 .f32) (x2 : Vec Ideal S1x32 .f32) (x3 x4 : Vec Ideal S2048x16 .f32)
  (x5 x6 : Vec Ideal S512x64 .f32) (x7 : Vec Ideal S8x128x128 .f32) (x8 : Vec Ideal S8x128 .f32)

/-- The kernel's `lam_re`, one row per slab. -/
theorem lr109 (q : Fin 4) (p : Fin 512) :
    k0_pay109 (F := Ideal) x0 x1 x2 x3 x4 x5 x6 x7 x8 (ix2 q p) = x0 (ix2 (head q p) (pos p)) := by
  refine Eq.trans ?_ (cat32 (row x0) q p)
  unfold k0_pay109
  simp (disch := decide) only [ld_row x0]
  rfl

/-- The kernel's `lam_im`, one row per slab. -/
theorem li110 (q : Fin 4) (p : Fin 512) :
    k0_pay110 (F := Ideal) x0 x1 x2 x3 x4 x5 x6 x7 x8 (ix2 q p) = x1 (ix2 (head q p) (pos p)) := by
  refine Eq.trans ?_ (cat32 (row x1) q p)
  unfold k0_pay110
  simp (disch := decide) only [ld_row x1]
  rfl

/-- The step sizes, one row per slab. -/
abbrev DT : FVec Ideal S4x512 .f32 :=
    k0_pay30 (F := Ideal) (k0_pay111 (F := Ideal) x0 x1 x2 x3 x4 x5 x6 x7 x8) (k0_pay112 (F := Ideal) x0 x1 x2 x3 x4 x5 x6 x7 x8)
      (k0_pay113 (F := Ideal) x0 x1 x2 x3 x4 x5 x6 x7 x8) (k0_pay114 (F := Ideal) x0 x1 x2 x3 x4 x5 x6 x7 x8)
      (k0_pay115 (F := Ideal) x0 x1 x2 x3 x4 x5 x6 x7 x8) (k0_pay116 (F := Ideal) x0 x1 x2 x3 x4 x5 x6 x7 x8)
      (k0_pay117 (F := Ideal) x0 x1 x2 x3 x4 x5 x6 x7 x8) (k0_pay118 (F := Ideal) x0 x1 x2 x3 x4 x5 x6 x7 x8)
      (k0_pay119 (F := Ideal) x0 x1 x2 x3 x4 x5 x6 x7 x8) (k0_pay120 (F := Ideal) x0 x1 x2 x3 x4 x5 x6 x7 x8)
      (k0_pay121 (F := Ideal) x0 x1 x2 x3 x4 x5 x6 x7 x8) (k0_pay122 (F := Ideal) x0 x1 x2 x3 x4 x5 x6 x7 x8)
      (k0_pay123 (F := Ideal) x0 x1 x2 x3 x4 x5 x6 x7 x8) (k0_pay124 (F := Ideal) x0 x1 x2 x3 x4 x5 x6 x7 x8)
      (k0_pay125 (F := Ideal) x0 x1 x2 x3 x4 x5 x6 x7 x8) (k0_pay126 (F := Ideal) x0 x1 x2 x3 x4 x5 x6 x7 x8)
      (k0_pay127 (F := Ideal) x0 x1 x2 x3 x4 x5 x6 x7 x8) (k0_pay128 (F := Ideal) x0 x1 x2 x3 x4 x5 x6 x7 x8)
      (k0_pay129 (F := Ideal) x0 x1 x2 x3 x4 x5 x6 x7 x8) (k0_pay130 (F := Ideal) x0 x1 x2 x3 x4 x5 x6 x7 x8)
      (k0_pay131 (F := Ideal) x0 x1 x2 x3 x4 x5 x6 x7 x8) (k0_pay132 (F := Ideal) x0 x1 x2 x3 x4 x5 x6 x7 x8)
      (k0_pay133 (F := Ideal) x0 x1 x2 x3 x4 x5 x6 x7 x8) (k0_pay134 (F := Ideal) x0 x1 x2 x3 x4 x5 x6 x7 x8)
      (k0_pay135 (F := Ideal) x0 x1 x2 x3 x4 x5 x6 x7 x8) (k0_pay136 (F := Ideal) x0 x1 x2 x3 x4 x5 x6 x7 x8)
      (View.ld x2 r0_58) (View.ld x2 r0_59) (View.ld x2 r0_60) (View.ld x2 r0_61) (View.ld x2 r0_62) (View.ld
      x2 r0_63)

/-- One head's entry, spread over its states. -/
def spread (h : Fin 32) : Vec Ideal S1x64 .f32 := fun _ => x2 (ix2 0 h)

/-- A load of one row of the spread step sizes is that row. -/
theorem ld_spread (k : Nat) (hk : k < 32) (h) :
    k0_pay4 (F := Ideal) (View.ld x2 (Rect.unit (s := S1x32) ![0, k] S1x1.size h)) = spread x2 ⟨k, hk⟩ := by
  funext j; idx_vars j
  pointwise [k0_pay4, spread]

/-- A state's step size is its head's. -/
theorem dt30 (q : Fin 4) (p : Fin 512) :
    DT x0 x1 x2 x3 x4 x5 x6 x7 x8 (ix2 q p) = Ideal.exp (x2 (ix2 0 (head q p))) := by
  have e : DT x0 x1 x2 x3 x4 x5 x6 x7 x8 = exp (k0_pay2 (F := Ideal) (k0_pay4 (View.ld x2 r0_32)) (k0_pay4 (View.ld x2 r0_33)) (k0_pay4 (View.ld x2 r0_34)) (k0_pay4 (View.ld
      x2 r0_35)) (k0_pay4 (View.ld x2 r0_36)) (k0_pay4 (View.ld x2 r0_37)) (k0_pay4 (View.ld x2 r0_38))
      (k0_pay4 (View.ld x2 r0_39)) (k0_pay4 (View.ld x2 r0_40)) (k0_pay4 (View.ld x2 r0_41)) (k0_pay4 (View.ld
      x2 r0_42)) (k0_pay4 (View.ld x2 r0_43)) (k0_pay4 (View.ld x2 r0_44)) (k0_pay4 (View.ld x2 r0_45))
      (k0_pay4 (View.ld x2 r0_46)) (k0_pay4 (View.ld x2 r0_47)) (k0_pay4 (View.ld x2 r0_48)) (k0_pay4 (View.ld
      x2 r0_49)) (k0_pay4 (View.ld x2 r0_50)) (k0_pay4 (View.ld x2 r0_51)) (k0_pay4 (View.ld x2 r0_52))
      (k0_pay4 (View.ld x2 r0_53)) (k0_pay4 (View.ld x2 r0_54)) (k0_pay4 (View.ld x2 r0_55)) (k0_pay4 (View.ld
      x2 r0_56)) (k0_pay4 (View.ld x2 r0_57)) (k0_pay4 (View.ld x2 r0_58)) (k0_pay4 (View.ld x2 r0_59))
      (k0_pay4 (View.ld x2 r0_60)) (k0_pay4 (View.ld x2 r0_61)) (k0_pay4 (View.ld x2 r0_62)) (k0_pay4 (View.ld
      x2 r0_63))) := rfl
  refine Eq.trans ?_ (congrArg Ideal.exp (cat32 (spread x2) q p))
  rw [e]
  simp (disch := decide) only [ld_spread x2]
  rfl

/-- The step's transition, real part. -/
def aRe (h : Fin 32) (e : Fin 64) : EReal :=
  Ideal.exp (x0 (ix2 h e) * Ideal.exp (x2 (ix2 0 h))) * Ideal.cos (x1 (ix2 h e) * Ideal.exp (x2 (ix2 0 h)))

/-- The step's transition, imaginary part. -/
def aIm (h : Fin 32) (e : Fin 64) : EReal :=
  Ideal.exp (x0 (ix2 h e) * Ideal.exp (x2 (ix2 0 h))) * Ideal.sin (x1 (ix2 h e) * Ideal.exp (x2 (ix2 0 h)))

/-- The input factor, real part. -/
def kRe (h : Fin 32) (e : Fin 64) : EReal :=
  Ideal.div ((aRe x0 x1 x2 h e - Ideal.ofBits .f32 0x3F800000#32) * x0 (ix2 h e) + aIm x0 x1 x2 h e * x1 (ix2 h e))
    (x0 (ix2 h e) * x0 (ix2 h e) + x1 (ix2 h e) * x1 (ix2 h e))

/-- The input factor, imaginary part. -/
def kIm (h : Fin 32) (e : Fin 64) : EReal :=
  Ideal.div (aIm x0 x1 x2 h e * x0 (ix2 h e) - (aRe x0 x1 x2 h e - Ideal.ofBits .f32 0x3F800000#32) * x1 (ix2 h e))
    (x0 (ix2 h e) * x0 (ix2 h e) + x1 (ix2 h e) * x1 (ix2 h e))

/-- The real decay of each state, as the kernel forms it. -/
theorem are137 (q : Fin 4) (p : Fin 512) :
    k0_pay137 (F := Ideal) x0 x1 x2 x3 x4 x5 x6 x7 x8 (ix2 q p) = aRe x0 x1 x2 (head q p) (pos p) := by
  show Ideal.exp (k0_pay109 (F := Ideal) x0 x1 x2 x3 x4 x5 x6 x7 x8 (ix2 q p) * DT x0 x1 x2 x3 x4 x5 x6 x7 x8 (ix2 q p)) *
    Ideal.cos (k0_pay110 (F := Ideal) x0 x1 x2 x3 x4 x5 x6 x7 x8 (ix2 q p) * DT x0 x1 x2 x3 x4 x5 x6 x7 x8 (ix2 q p)) = _
  rw [lr109, li110, dt30, aRe]

/-- The imaginary decay, likewise. -/
theorem aim138 (q : Fin 4) (p : Fin 512) :
    k0_pay138 (F := Ideal) x0 x1 x2 x3 x4 x5 x6 x7 x8 (ix2 q p) = aIm x0 x1 x2 (head q p) (pos p) := by
  show Ideal.exp (k0_pay109 (F := Ideal) x0 x1 x2 x3 x4 x5 x6 x7 x8 (ix2 q p) * DT x0 x1 x2 x3 x4 x5 x6 x7 x8 (ix2 q p)) *
    Ideal.sin (k0_pay110 (F := Ideal) x0 x1 x2 x3 x4 x5 x6 x7 x8 (ix2 q p) * DT x0 x1 x2 x3 x4 x5 x6 x7 x8 (ix2 q p)) = _
  rw [lr109, li110, dt30, aIm]

/-- The real input factor, likewise. -/
theorem kre139 (q : Fin 4) (p : Fin 512) :
    k0_pay139 (F := Ideal) x0 x1 x2 x3 x4 x5 x6 x7 x8 (ix2 q p) = kRe x0 x1 x2 (head q p) (pos p) := by
  show Ideal.div ((k0_pay137 (F := Ideal) x0 x1 x2 x3 x4 x5 x6 x7 x8 (ix2 q p) - Ideal.ofBits .f32 0x3F800000#32) *
      k0_pay109 (F := Ideal) x0 x1 x2 x3 x4 x5 x6 x7 x8 (ix2 q p) +
      k0_pay138 (F := Ideal) x0 x1 x2 x3 x4 x5 x6 x7 x8 (ix2 q p) * k0_pay110 (F := Ideal) x0 x1 x2 x3 x4 x5 x6 x7 x8 (ix2 q p))
    (k0_pay109 (F := Ideal) x0 x1 x2 x3 x4 x5 x6 x7 x8 (ix2 q p) * k0_pay109 (F := Ideal) x0 x1 x2 x3 x4 x5 x6 x7 x8 (ix2 q p) +
      k0_pay110 (F := Ideal) x0 x1 x2 x3 x4 x5 x6 x7 x8 (ix2 q p) * k0_pay110 (F := Ideal) x0 x1 x2 x3 x4 x5 x6 x7 x8 (ix2 q p)) = _
  rw [lr109, li110, are137, aim138, kRe]

/-- The imaginary input factor, likewise. -/
theorem kim140 (q : Fin 4) (p : Fin 512) :
    k0_pay140 (F := Ideal) x0 x1 x2 x3 x4 x5 x6 x7 x8 (ix2 q p) = kIm x0 x1 x2 (head q p) (pos p) := by
  show Ideal.div (k0_pay138 (F := Ideal) x0 x1 x2 x3 x4 x5 x6 x7 x8 (ix2 q p) * k0_pay109 (F := Ideal) x0 x1 x2 x3 x4 x5 x6 x7 x8 (ix2 q p) -
      (k0_pay137 (F := Ideal) x0 x1 x2 x3 x4 x5 x6 x7 x8 (ix2 q p) - Ideal.ofBits .f32 0x3F800000#32) *
      k0_pay110 (F := Ideal) x0 x1 x2 x3 x4 x5 x6 x7 x8 (ix2 q p))
    (k0_pay109 (F := Ideal) x0 x1 x2 x3 x4 x5 x6 x7 x8 (ix2 q p) * k0_pay109 (F := Ideal) x0 x1 x2 x3 x4 x5 x6 x7 x8 (ix2 q p) +
      k0_pay110 (F := Ideal) x0 x1 x2 x3 x4 x5 x6 x7 x8 (ix2 q p) * k0_pay110 (F := Ideal) x0 x1 x2 x3 x4 x5 x6 x7 x8 (ix2 q p)) = _
  rw [lr109, li110, are137, aim138, kIm]

end Cert.PrepMix

end
-- ==== Proof.PrepMasks.lean ====
/- The preparation kernel's masks and one-hot products, entry by entry. -/
module

public import proofs.«01_k».proof.Proof.PrepKernel

@[expose] public section

set_option maxRecDepth 16384

noncomputable section

namespace Cert.PrepMix

open Idealize.ShloMosaic
open Cert.PrepIdeal Cert.PrepIdeal.Gen

variable (x0 x1 : Vec Ideal S32x64 .f32) (x2 : Vec Ideal S1x32 .f32) (x3 x4 : Vec Ideal S2048x16 .f32)
  (x5 x6 : Vec Ideal S512x64 .f32) (x7 : Vec Ideal S8x128x128 .f32) (x8 : Vec Ideal S8x128 .f32)

/-- A state's head, from its row number. -/
theorem row47 (i : Fin 512) (j : Fin 128) : k0_pay47 (ix2 i j) = BitVec.ofNat 32 (i.val / 64) := by
  have key : ∀ i : Fin 512, k0_pay47 (ix2 i 0) = BitVec.ofNat 32 (i.val / 64) := by decide +kernel
  exact (rfl : k0_pay47 (ix2 i j) = k0_pay47 (ix2 i 0)).trans (key i)

/-- The mask of the input slabs: state and channel belong to one head. -/
theorem mask147 (i : Fin 512) (j : Fin 128) :
    k0_pay147 (F := Ideal) x0 x1 x2 x3 x4 x5 x6 x7 x8 (ix2 i j) = if i.val / 64 = j.val / 16 then 1#1 else 0#1 := by
  have key : ∀ (a : Fin 8) (j : Fin 128), k0_pay50 (fun _ => BitVec.ofNat 32 a.val)
      (iota .tc S512x128 32 [1] iota_S512x128_d1_w32) 16#32 k0_pay48 k0_pay49 (ix2 0 j) =
        if a.val = j.val / 16 then 1#1 else 0#1 := by decide +kernel
  have e : k0_pay147 (F := Ideal) x0 x1 x2 x3 x4 x5 x6 x7 x8 (ix2 i j) = k0_pay50 (fun _ => k0_pay47 (ix2 i j))
      (iota .tc S512x128 32 [1] iota_S512x128_d1_w32) 16#32 k0_pay48 k0_pay49 (ix2 0 j) := rfl
  rw [e, row47]
  exact key ⟨i.val / 64, by omega⟩ j

/-- A channel's head, from its row number. -/
theorem row51 (i : Fin 128) (j : Fin 512) : k0_pay51 (ix2 i j) = BitVec.ofNat 32 (i.val / 16) := by
  have key : ∀ i : Fin 128, k0_pay51 (ix2 i 0) = BitVec.ofNat 32 (i.val / 16) := by decide +kernel
  exact (rfl : k0_pay51 (ix2 i j) = k0_pay51 (ix2 i 0)).trans (key i)

/-- The mask of the output slabs, likewise. -/
theorem mask148 (i : Fin 128) (j : Fin 512) :
    k0_pay148 (F := Ideal) x0 x1 x2 x3 x4 x5 x6 x7 x8 (ix2 i j) = if i.val / 16 = j.val / 64 then 1#1 else 0#1 := by
  have key : ∀ (a : Fin 8) (j : Fin 512), k0_pay53 (fun _ => BitVec.ofNat 32 a.val)
      (iota .tc S128x512 32 [1] iota_S128x512_d1_w32) 64#32 k0_pay52 (ix2 0 j) =
        if a.val = j.val / 64 then 1#1 else 0#1 := by decide +kernel
  have e : k0_pay148 (F := Ideal) x0 x1 x2 x3 x4 x5 x6 x7 x8 (ix2 i j) = k0_pay53 (fun _ => k0_pay51 (ix2 i j))
      (iota .tc S128x512 32 [1] iota_S128x512_d1_w32) 64#32 k0_pay52 (ix2 0 j) := rfl
  rw [e, row51]
  exact key ⟨i.val / 16, by omega⟩ j

/-- The causal mask. -/
theorem mask149 (i j : Fin 128) :
    k0_pay149 (F := Ideal) x0 x1 x2 x3 x4 x5 x6 x7 x8 (ix2 i j) = if j.val ≤ i.val then 1#1 else 0#1 := by
  have key : ∀ i j : Fin 128, k0_pay79 (ix2 i j) = if j.val ≤ i.val then 1#1 else 0#1 := by decide +kernel
  exact key i j

/-- A comparison bit, as the number it is converted to. -/
theorem hot_val {b : BitVec 32} {P : Prop} [Decidable P] (h : b = if P then 1#32 else 0#32) :
    FloatOps.sitofp (F := Ideal) .f32 b = (if P then 1 else 0 : EReal) := by
  subst h
  split
  · show (((1#32 : BitVec 32).toInt : ℝ) : EReal) = 1
    norm_num
  · show (((0#32 : BitVec 32).toInt : ℝ) : EReal) = 0
    norm_num

/-- A row times a one-hot column. -/
theorem pick {n k : Nat} (f : Fin n → EReal) (hk : k < n) :
    (∑ x, f x * if x.val = k then 1 else 0) = f ⟨k, hk⟩ := by
  rw [Finset.sum_eq_single ⟨k, hk⟩]
  · simp
  · intro b _ hb
    rw [if_neg fun h => hb (Fin.ext h), mul_zero]
  · intro h; exact absurd (Finset.mem_univ _) h

/-- The 0/1 matrix that repeats 16 columns. -/
theorem hot40 (h : Fin 16) (c : Fin 128) : k0_pay40 (F := Ideal) (ix2 h c) = if h.val = c.val % 16 then 1 else 0 := by
  pointwise [k0_pay40]
  refine hot_val ?_
  revert c h
  decide +kernel

/-- The 0/1 matrix that repeats 64 columns. -/
theorem hot41 (h : Fin 64) (c : Fin 512) : k0_pay41 (F := Ideal) (ix2 h c) = if h.val = c.val % 64 then 1 else 0 := by
  pointwise [k0_pay41]
  refine hot_val ?_
  revert c h
  decide +kernel

/-- The product repeats the columns of the real input matrices. -/
theorem tb143 (r : Fin 2048) (c : Fin 128) :
    k0_pay143 (F := Ideal) x0 x1 x2 x3 x4 x5 x6 x7 x8 (ix2 r c) = x3 (ix2 r ⟨c.val % 16, by omega⟩) := by
  pointwise [k0_pay143, k0_pay141, k0_pay43, k0_pay42, hot40]
  exact pick (fun x => x3 (ix2 r x)) _

/-- The same for the imaginary ones. -/
theorem tb144 (r : Fin 2048) (c : Fin 128) :
    k0_pay144 (F := Ideal) x0 x1 x2 x3 x4 x5 x6 x7 x8 (ix2 r c) = x4 (ix2 r ⟨c.val % 16, by omega⟩) := by
  pointwise [k0_pay144, k0_pay141, k0_pay44, hot40]
  exact pick (fun x => x4 (ix2 r x)) _

/-- The product repeats the columns of the real output matrices. -/
theorem tc145 (r : Fin 512) (c : Fin 512) :
    k0_pay145 (F := Ideal) x0 x1 x2 x3 x4 x5 x6 x7 x8 (ix2 r c) = x5 (ix2 r ⟨c.val % 64, by omega⟩) := by
  pointwise [k0_pay145, k0_pay142, k0_pay45, hot41]
  exact pick (fun x => x5 (ix2 r x)) _

/-- The same for the imaginary ones. -/
theorem tc146 (r : Fin 512) (c : Fin 512) :
    k0_pay146 (F := Ideal) x0 x1 x2 x3 x4 x5 x6 x7 x8 (ix2 r c) = x6 (ix2 r ⟨c.val % 64, by omega⟩) := by
  pointwise [k0_pay146, k0_pay142, k0_pay46, hot41]
  exact pick (fun x => x6 (ix2 r x)) _

/-- The one-hot matrix that repeats each group's shift across its 128 columns. -/
theorem hot108 (r : Fin 1024) (g : Fin 8) :
    k0_pay108 (F := Ideal) k0_pay104 k0_pay105 k0_pay106 k0_pay107 (ix2 r g) = if g.val = r.val / 128 then 1 else 0 := by
  pointwise [k0_pay108, k0_pay104, k0_pay105, k0_pay106, k0_pay107]
  refine hot_val ?_
  revert g r
  decide +kernel

end Cert.PrepMix

end
-- ==== Proof.PrepOuts.lean ====
/- The preparation kernel's seven results, entry by entry. -/
module

public import proofs.«01_k».proof.Proof.PrepMasks
public import proofs.«01_k».proof.Proof.Spec

@[expose] public section

set_option maxRecDepth 16384

noncomputable section

namespace Cert.PrepMix

open Idealize.ShloMosaic
open Cert.PrepIdeal Cert.PrepIdeal.Gen Cert.Layer

variable (x0 x1 : Vec Ideal S32x64 .f32) (x2 : Vec Ideal S1x32 .f32) (x3 x4 : Vec Ideal S2048x16 .f32)
  (x5 x6 : Vec Ideal S512x64 .f32) (x7 : Vec Ideal S8x128x128 .f32) (x8 : Vec Ideal S8x128 .f32)

/-- The slab a stored piece's index lands in, and its place there. -/
theorem tile2 {i : Fin 8} {q : Fin 4} {p : Fin 512} {x : S8x512.Idx} (c : Fin 4) (h0 : i.val = (x 0).val)
    (h1 : q.val * 512 + p.val = c.val * 512 + (x 1).val) : q = c ∧ x = ix2 i p := by
  have b1 : (x 1).val < 512 := (x 1).isLt
  refine ⟨Fin.ext (by omega), funext fun a => ?_⟩
  fin_cases a
  · exact Fin.ext h0.symm
  · exact Fin.ext (by show (x 1).val = p.val; omega)

/-- The first result: the real decay. -/
theorem out9 (i : Fin 8) (q : Fin 4) (p : Fin 512) :
    out0_9 (F := Ideal) x0 x1 x2 x3 x4 x5 x6 x7 x8 (ix2 i (st q p)) = aRe x0 x1 x2 (head q p) (pos p) := by
  unfold out0_9
  canon_tiles x h
  · obtain ⟨rfl, rfl⟩ := tile2 3 h0 h1
    pointwise [k0_pay75, are137]
  · obtain ⟨rfl, rfl⟩ := tile2 2 h0 h1
    pointwise [k0_pay70, are137]
  · obtain ⟨rfl, rfl⟩ := tile2 1 h0 h1
    pointwise [k0_pay64, are137]
  · obtain ⟨rfl, rfl⟩ := tile2 0 h0 (by simpa [st] using h1)
    pointwise [k0_pay54, are137]

/-- The second result: the imaginary decay. -/
theorem out10 (i : Fin 8) (q : Fin 4) (p : Fin 512) :
    out0_10 (F := Ideal) x0 x1 x2 x3 x4 x5 x6 x7 x8 (ix2 i (st q p)) = aIm x0 x1 x2 (head q p) (pos p) := by
  unfold out0_10
  canon_tiles x h
  · obtain ⟨rfl, rfl⟩ := tile2 3 h0 h1
    pointwise [k0_pay76, aim138]
  · obtain ⟨rfl, rfl⟩ := tile2 2 h0 h1
    pointwise [k0_pay71, aim138]
  · obtain ⟨rfl, rfl⟩ := tile2 1 h0 h1
    pointwise [k0_pay65, aim138]
  · obtain ⟨rfl, rfl⟩ := tile2 0 h0 (by simpa [st] using h1)
    pointwise [k0_pay55, aim138]

/-- The slab a stored block's index lands in, and its place there. -/
theorem tile3 {a b : Nat} {q : Fin 4} {i : Fin a} {j : Fin b} {x : (⟨3, ![1, a, b]⟩ : Shape).Idx} (c : Fin 4)
    (h0 : q.val = c.val + (x 0).val) (h1 : i.val = (x 1).val) (h2 : j.val = (x 2).val) :
    q = c ∧ x = ix3 0 i j := by
  have b0 : (x 0).val < 1 := (x 0).isLt
  refine ⟨Fin.ext (by omega), funext fun a => ?_⟩
  fin_cases a
  · exact Fin.ext (by show (x 0).val = 0; omega)
  · exact Fin.ext h1.symm
  · exact Fin.ext h2.symm

/-- A masked difference of two masked values. -/
theorem mask_sub (P : Prop) [Decidable P] (a b : EReal) :
    Scalar.select (if P then 1#1 else 0#1) a 0 - Scalar.select (if P then 1#1 else 0#1) b 0 = if P then a - b else 0 := by
  by_cases h : P
  · rw [if_pos h, if_pos h]; rfl
  · rw [if_neg h, if_neg h]; show (0 : EReal) - 0 = 0; rw [sub_eq_add_neg, neg_zero, add_zero]

/-- A masked sum of two masked values. -/
theorem mask_add (P : Prop) [Decidable P] (a b : EReal) :
    Scalar.select (if P then 1#1 else 0#1) a 0 + Scalar.select (if P then 1#1 else 0#1) b 0 = if P then a + b else 0 := by
  by_cases h : P
  · rw [if_pos h, if_pos h]; rfl
  · rw [if_neg h, if_neg h]; exact add_zero (0 : EReal)

/-- A masked value. -/
theorem mask_one (P : Prop) [Decidable P] (a : EReal) :
    Scalar.select (if P then 1#1 else 0#1) a 0 = if P then a else 0 := by
  by_cases h : P
  · rw [if_pos h, if_pos h]; rfl
  · rw [if_neg h, if_neg h]; rfl

/-- A column of the first half keeps its number. -/
theorem lo_val (p : Fin 512) : (lo p).val = p.val := rfl

/-- A column of the second half is 512 further on. -/
theorem hi_sub (p : Fin 512) : (hi p).val - 512 = p.val := Nat.add_sub_cancel_left 512 p.val

/-- The first half lies below 512. -/
theorem lo_lt (p : Fin 512) : (lo p).val < 512 := p.isLt

/-- The second half does not. -/
theorem hi_lt (p : Fin 512) : ¬ (hi p).val < 512 := Nat.not_lt.mpr (Nat.le_add_right 512 p.val)

/-- The third result, first half: the real input matrices by heads. -/
theorem out11_lo (q : Fin 4) (c : Fin 128) (p : Fin 512) :
    out0_11 (F := Ideal) x0 x1 x2 x3 x4 x5 x6 x7 x8 (ix3 q c (lo p)) = if p.val / 64 = c.val / 16 then
      kRe x0 x1 x2 (head q p) (pos p) * x3 (ix2 (st q p) ⟨c.val % 16, by omega⟩) -
        kIm x0 x1 x2 (head q p) (pos p) * x4 (ix2 (st q p) ⟨c.val % 16, by omega⟩) else 0 := by
  unfold out0_11
  canon_tiles x h
  · obtain ⟨rfl, rfl⟩ := tile3 3 h0 h1 h2
    pointwise [k0_pay77, kre139, kim140, tb143, tb144, mask147]
    refine (dif_pos (lo_lt p)).trans ?_
    exact mask_sub _ _ _
  · obtain ⟨rfl, rfl⟩ := tile3 2 h0 h1 h2
    pointwise [k0_pay73, k0_pay72, kre139, kim140, tb143, tb144, mask147]
    refine (dif_pos (lo_lt p)).trans ?_
    exact mask_sub _ _ _
  · obtain ⟨rfl, rfl⟩ := tile3 1 h0 h1 h2
    pointwise [k0_pay68, k0_pay67, k0_pay66, kre139, kim140, tb143, tb144, mask147]
    refine (dif_pos (lo_lt p)).trans ?_
    exact mask_sub _ _ _
  · obtain ⟨rfl, rfl⟩ := tile3 0 (by simpa using h0) h1 h2
    pointwise [k0_pay62, k0_pay61, k0_pay60, k0_pay59, k0_pay58, k0_pay57, k0_pay56, kre139, kim140, tb143, tb144, mask147]
    refine (dif_pos (lo_lt p)).trans ?_
    rw [st_zero]; exact mask_sub _ _ _

/-- The third result, second half: the imaginary input matrices by heads. -/
theorem out11_hi (q : Fin 4) (c : Fin 128) (p : Fin 512) :
    out0_11 (F := Ideal) x0 x1 x2 x3 x4 x5 x6 x7 x8 (ix3 q c (hi p)) = if p.val / 64 = c.val / 16 then
      kRe x0 x1 x2 (head q p) (pos p) * x4 (ix2 (st q p) ⟨c.val % 16, by omega⟩) +
        kIm x0 x1 x2 (head q p) (pos p) * x3 (ix2 (st q p) ⟨c.val % 16, by omega⟩) else 0 := by
  unfold out0_11
  canon_tiles x h
  · obtain ⟨rfl, rfl⟩ := tile3 3 h0 h1 h2
    pointwise [k0_pay77, kre139, kim140, tb143, tb144, mask147]
    simp only [dif_neg (hi_lt p), hi_sub, mask_add]; try rfl
  · obtain ⟨rfl, rfl⟩ := tile3 2 h0 h1 h2
    pointwise [k0_pay73, k0_pay72, kre139, kim140, tb143, tb144, mask147]
    simp only [dif_neg (hi_lt p), hi_sub, mask_add]; try rfl
  · obtain ⟨rfl, rfl⟩ := tile3 1 h0 h1 h2
    pointwise [k0_pay68, k0_pay67, k0_pay66, kre139, kim140, tb143, tb144, mask147]
    simp only [dif_neg (hi_lt p), hi_sub, mask_add]; try rfl
  · obtain ⟨rfl, rfl⟩ := tile3 0 (by simpa using h0) h1 h2
    pointwise [k0_pay62, k0_pay61, k0_pay60, k0_pay59, k0_pay58, k0_pay57, k0_pay56, kre139, kim140, tb143, tb144, mask147]
    simp only [dif_neg (hi_lt p), hi_sub, mask_add, st_zero]; try rfl

/-- The fourth result, first half: the real output matrices by heads. -/
theorem out12_lo (q : Fin 4) (p : Fin 512) (c : Fin 128) :
    out0_12 (F := Ideal) x0 x1 x2 x3 x4 x5 x6 x7 x8 (ix3 q (lo p) c) = if c.val / 16 = p.val / 64 then
      x5 (ix2 (chan q c) (pos p)) else 0 := by
  unfold out0_12
  canon_tiles x h
  · obtain ⟨rfl, rfl⟩ := tile3 3 h0 h1 h2
    pointwise [k0_pay78, tc145, tc146, mask148]
    refine (dif_pos (lo_lt p)).trans ?_
    exact mask_one _ _
  · obtain ⟨rfl, rfl⟩ := tile3 2 h0 h1 h2
    pointwise [k0_pay74, tc145, tc146, mask148]
    refine (dif_pos (lo_lt p)).trans ?_
    exact mask_one _ _
  · obtain ⟨rfl, rfl⟩ := tile3 1 h0 h1 h2
    pointwise [k0_pay69, tc145, tc146, mask148]
    refine (dif_pos (lo_lt p)).trans ?_
    exact mask_one _ _
  · obtain ⟨rfl, rfl⟩ := tile3 0 (by simpa using h0) h1 h2
    pointwise [k0_pay63, tc145, tc146, mask148]
    refine (dif_pos (lo_lt p)).trans ?_
    rw [chan_zero]; exact mask_one _ _

/-- The fourth result, second half: the imaginary output matrices by heads, negated. -/
theorem out12_hi (q : Fin 4) (p : Fin 512) (c : Fin 128) :
    out0_12 (F := Ideal) x0 x1 x2 x3 x4 x5 x6 x7 x8 (ix3 q (hi p) c) = if c.val / 16 = p.val / 64 then
      -x6 (ix2 (chan q c) (pos p)) else 0 := by
  unfold out0_12
  canon_tiles x h
  · obtain ⟨rfl, rfl⟩ := tile3 3 h0 h1 h2
    pointwise [k0_pay78, tc145, tc146, mask148]
    simp only [dif_neg (hi_lt p), hi_sub, mask_one, sub_eq_add_neg, zero_add]; try rfl
  · obtain ⟨rfl, rfl⟩ := tile3 2 h0 h1 h2
    pointwise [k0_pay74, tc145, tc146, mask148]
    simp only [dif_neg (hi_lt p), hi_sub, mask_one, sub_eq_add_neg, zero_add]; try rfl
  · obtain ⟨rfl, rfl⟩ := tile3 1 h0 h1 h2
    pointwise [k0_pay69, tc145, tc146, mask148]
    simp only [dif_neg (hi_lt p), hi_sub, mask_one, sub_eq_add_neg, zero_add]; try rfl
  · obtain ⟨rfl, rfl⟩ := tile3 0 (by simpa using h0) h1 h2
    pointwise [k0_pay63, tc145, tc146, mask148]
    simp only [dif_neg (hi_lt p), hi_sub, mask_one, sub_eq_add_neg, zero_add, chan_zero]; try rfl

/-- The block a stored square lands in, and its place there. -/
theorem tile8 {g : Fin 8} {i j : Fin 128} {x : S1x128x128.Idx} (c : Fin 8)
    (h0 : g.val = c.val + (x 0).val) (h1 : i.val = (x 1).val) (h2 : j.val = (x 2).val) :
    g = c ∧ x = ix3 0 i j := by
  have b0 : (x 0).val < 1 := (x 0).isLt
  refine ⟨Fin.ext (by omega), funext fun a => ?_⟩
  fin_cases a
  · exact Fin.ext (by show (x 0).val = 0; omega)
  · exact Fin.ext h1.symm
  · exact Fin.ext h2.symm

/-- The fifth result: the causal spatial weights. -/
theorem out13 (g : Fin 8) (i j : Fin 128) :
    out0_13 (F := Ideal) x0 x1 x2 x3 x4 x5 x6 x7 x8 (ix3 g i j) = if j.val ≤ i.val then x7 (ix3 g i j) else 0 := by
  unfold out0_13
  canon_tiles x h
  · obtain ⟨rfl, rfl⟩ := tile8 7 h0 h1 h2
    pointwise [k0_pay102, k0_pay101, mask149]
    simp only [mask_one]; try rfl
  · obtain ⟨rfl, rfl⟩ := tile8 6 h0 h1 h2
    pointwise [k0_pay100, k0_pay99, k0_pay98, mask149]
    simp only [mask_one]; try rfl
  · obtain ⟨rfl, rfl⟩ := tile8 5 h0 h1 h2
    pointwise [k0_pay96, k0_pay95, mask149]
    simp only [mask_one]; try rfl
  · obtain ⟨rfl, rfl⟩ := tile8 4 h0 h1 h2
    pointwise [k0_pay93, k0_pay92, mask149]
    simp only [mask_one]; try rfl
  · obtain ⟨rfl, rfl⟩ := tile8 3 h0 h1 h2
    pointwise [k0_pay90, k0_pay150, k0_pay89, mask149]
    simp only [mask_one]; try rfl
  · obtain ⟨rfl, rfl⟩ := tile8 2 h0 h1 h2
    pointwise [k0_pay87, k0_pay86, mask149]
    simp only [mask_one]; try rfl
  · obtain ⟨rfl, rfl⟩ := tile8 1 h0 h1 h2
    pointwise [k0_pay84, k0_pay83, mask149]
    simp only [mask_one]; try rfl
  · obtain ⟨rfl, rfl⟩ := tile8 0 (by simpa using h0) h1 h2
    pointwise [k0_pay81, k0_pay80, mask149]
    simp only [mask_one]; try rfl

/-- The sixth result: the bias, spread over the columns of its group. -/
theorem out14 (i : Fin 128) (n : Fin 1024) :
    out0_14 (F := Ideal) x0 x1 x2 x3 x4 x5 x6 x7 x8 (ix2 i n) = x8 (ix2 ⟨n.val / 128, by omega⟩ i) := by
  unfold out0_14
  canon_tiles x h
  obtain rfl : x = ix2 i n := by
    funext a; fin_cases a
    · exact Fin.ext h0.symm
    · exact Fin.ext h1.symm
  pointwise [k0_pay1, hot108]
  refine (Finset.sum_congr rfl fun g _ => mul_comm _ _).trans ?_
  exact pick (fun g => x8 (ix2 g i)) _

/-- Eight spread corners side by side, read at a group's column. -/
theorem cat15 (g : Fin 8) (k : Fin 128) :
    Value.Cat15_0 (F := Ideal) (View.ld x7 r0_78) (View.ld x7 r0_79) (View.ld x7 r0_80) (View.ld x7 r0_81)
      (View.ld x7 r0_82) (View.ld x7 r0_83) (View.ld x7 r0_84) (View.ld x7 r0_85) g (ix2 0 k) = x7 (ix3 g 0 0) := by
  fin_cases g <;> pointwise [Value.Cat15_0]

/-- The seventh result: each group's first spatial weight, spread over its columns. -/
theorem out15 (n : Fin 1024) :
    out0_15 (F := Ideal) x0 x1 x2 x3 x4 x5 x6 x7 x8 (ix2 0 n) = x7 (ix3 ⟨n.val / 128, by omega⟩ 0 0) := by
  unfold_out out0_15
  rw [Value.canon15_eq]
  have e : Value.ix15_0 (ix2 0 n) = ix2 0 ⟨n.val % 128, by omega⟩ := by
    funext a; fin_cases a <;> rfl
  show Value.Cat15_0 _ _ _ _ _ _ _ _ ⟨n.val / 128, _⟩ (Value.ix15_0 (ix2 0 n)) = _
  rw [e]
  exact cat15 x7 ⟨n.val / 128, by omega⟩ ⟨n.val % 128, by omega⟩

end Cert.PrepMix

end
-- ==== Proof.PrepRef.lean ====
/- What the reference of the preparation kernel computes, entry by entry, by the same formulas. -/
module

public import proofs.«01_k».proof.Defs
public import proofs.«01_k».proof.Proof.Gen.PrepRefIdeal.Read
public import proofs.«01_k».proof.Proof.PrepOuts

@[expose] public section

set_option maxRecDepth 16384

noncomputable section

namespace Cert.PrepMix

open Idealize.ShloMosaic Idealize.SL.Sem
open Cert.PrepRefIdeal Cert.PrepRefIdeal.Read Cert.Layer

variable (a0 a1 : Vec Ideal S32x64 .f32) (a2 : Vec Ideal S32 .f32) (a3 a4 : Vec Ideal S32x64x16 .f32)
  (a5 a6 : Vec Ideal S32x16x64 .f32) (a7 : Vec Ideal S8x128x128 .f32) (a8 : Vec Ideal S8x128 .f32)

/-- The step sizes as one row. -/
def flatT : Vec Ideal Cert.PrepIdeal.S1x32 .f32 := fun y => a2 (ix1 (y 1))

/-- The heads' input matrices, one below the other. -/
def flatB : Vec Ideal Cert.PrepIdeal.S2048x16 .f32 := fun y =>
  a3 (ix3 ⟨(y 0).val / 64, by have h : (y 0).val < 2048 := (y 0).isLt; omega⟩ ⟨(y 0).val % 64, by omega⟩ (y 1))

/-- The heads' output matrices, one below the other. -/
def flatC : Vec Ideal Cert.PrepIdeal.S512x64 .f32 := fun y =>
  a5 (ix3 ⟨(y 0).val / 16, by have h : (y 0).val < 512 := (y 0).isLt; omega⟩ ⟨(y 0).val % 16, by omega⟩ (y 1))

/-- The real decay. -/
theorem r8 (h : Fin 32) (e : Fin 64) : val_main_v8 (F := Ideal) a0 a1 a2 (ix2 h e) = aRe a0 a1 (flatT a2) h e := by
  pointwise [val_main_v8, val_main_v7, val_main_v6, val_main_v5, val_main_v4, val_main_v3, val_main_v2, val_main_v1,
    val_main_v0]
  rfl

/-- The imaginary decay. -/
theorem r12 (h : Fin 32) (e : Fin 64) : val_main_v12 (F := Ideal) a0 a1 a2 (ix2 h e) = aIm a0 a1 (flatT a2) h e := by
  pointwise [val_main_v12, val_main_v11, val_main_v10, val_main_v9, val_main_v4, val_main_v3, val_main_v2, val_main_v1,
    val_main_v0]
  rfl

/-- The real input factor. -/
theorem r21 (h : Fin 32) (e : Fin 64) : val_main_v21 (F := Ideal) a0 a1 a2 (ix2 h e) = kRe a0 a1 (flatT a2) h e := by
  pointwise [val_main_v21, val_main_v20, val_main_v19, val_main_v18, val_main_v17, val_main_v16, val_main_v15,
    val_main_v14, val_main_v13, val_main_cst, r8, r12, kRe]

/-- The imaginary input factor. -/
theorem r28 (h : Fin 32) (e : Fin 64) : val_main_v28 (F := Ideal) a0 a1 a2 (ix2 h e) = kIm a0 a1 (flatT a2) h e := by
  pointwise [val_main_v28, val_main_v27, val_main_v26, val_main_v25, val_main_v24, val_main_v23, val_main_v15,
    val_main_v14, val_main_v13, val_main_cst_0, r8, r12, kIm]

/-- The real input matrices, discretised. -/
theorem r34 (h : Fin 32) (e : Fin 64) (c : Fin 16) : val_main_v34 (F := Ideal) a0 a1 a2 a3 a4 (ix3 h e c) =
    kRe a0 a1 (flatT a2) h e * a3 (ix3 h e c) - kIm a0 a1 (flatT a2) h e * a4 (ix3 h e c) := by
  pointwise [val_main_v34, val_main_v33, val_main_v32, val_main_v31, val_main_v30, val_main_v29, val_main_v22, r21, r28]

/-- The imaginary ones. -/
theorem r39 (h : Fin 32) (e : Fin 64) (c : Fin 16) : val_main_v39 (F := Ideal) a0 a1 a2 a3 a4 (ix3 h e c) =
    kRe a0 a1 (flatT a2) h e * a4 (ix3 h e c) + kIm a0 a1 (flatT a2) h e * a3 (ix3 h e c) := by
  pointwise [val_main_v39, val_main_v38, val_main_v37, val_main_v36, val_main_v35, val_main_v29, val_main_v22, r21, r28]

/-- The real decay as a row, repeated. -/
theorem r41 (i : Fin 8) (q : Fin 4) (p : Fin 512) : val_main_v41 (F := Ideal) a0 a1 a2 (ix2 i (st q p)) =
    aRe a0 a1 (flatT a2) (head q p) (pos p) := by
  rw [val_main_v41_apply, val_main_v40_apply, show idx_main_v40 (idx_main_v41 (ix2 i (st q p))) = ix2 (head q p) (pos p)
    from funext fun a => by
      fin_cases a
      · exact Fin.ext (by simp [st, head]; omega)
      · exact Fin.ext (by simp [st, pos]; omega), r8]

/-- The imaginary decay, likewise. -/
theorem r43 (i : Fin 8) (q : Fin 4) (p : Fin 512) : val_main_v43 (F := Ideal) a0 a1 a2 (ix2 i (st q p)) =
    aIm a0 a1 (flatT a2) (head q p) (pos p) := by
  rw [val_main_v43_apply, val_main_v42_apply, show idx_main_v42 (idx_main_v43 (ix2 i (st q p))) = ix2 (head q p) (pos p)
    from funext fun a => by
      fin_cases a
      · exact Fin.ext (by simp [st, head]; omega)
      · exact Fin.ext (by simp [st, pos]; omega), r12]

/-- The mask of equal groups. -/
theorem same : ∀ i j : Fin 8, IntOp.cmpi .eq (BitVec.ofNat 32 i.val) (BitVec.ofNat 32 j.val) =
    if j.val = i.val then 1#1 else 0#1 := by decide +kernel

/-- The mask of the lower triangle. -/
theorem tri : ∀ i j : Fin 128, IntOp.cmpi .sge (BitVec.ofNat 32 i.val) (BitVec.ofNat 32 j.val) =
    if j.val ≤ i.val then 1#1 else 0#1 := by decide +kernel

/-- An input slab's entry `(q, c, p)`, by group, channel, group and state. -/
theorem split51 (q : Fin 4) (c : Fin 128) (p : Fin 512) : idx_main_v51 (ix3 q c p) =
    ix5 q ⟨c.val / 16, by omega⟩ ⟨c.val % 16, by omega⟩ ⟨p.val / 64, by omega⟩ (pos p) := by
  funext a
  fin_cases a <;> exact Fin.ext (by simp [pos]; omega)

/-- A group's place among the 32 heads. -/
theorem join45 (q : Fin 4) (i : Fin 8) (j : Fin 16) (e : Fin 64) : idx_main_v45 (ix5 q i j 0 e) =
    ix3 ⟨8 * q.val + i.val, by omega⟩ j e := by
  funext a
  fin_cases a <;> first | exact Fin.ext (by simp; omega) | exact Fin.ext (by simp)

/-- An output slab's entry `(q, p, c)`, by group, state, group and channel. -/
theorem split68 (q : Fin 4) (p : Fin 512) (c : Fin 128) : idx_main_v68 (ix3 q p c) =
    ix5 q ⟨p.val / 64, by omega⟩ (pos p) ⟨c.val / 16, by omega⟩ ⟨c.val % 16, by omega⟩ := by
  funext a
  fin_cases a <;> exact Fin.ext (by simp [pos]; omega)

/-- The same for the output matrices. -/
theorem join62 (q : Fin 4) (i : Fin 8) (e : Fin 64) (j : Fin 16) : idx_main_v62 (ix5 q i e 0 j) =
    ix3 ⟨8 * q.val + i.val, by omega⟩ e j := by
  funext a
  fin_cases a <;> first | exact Fin.ext (by simp; omega) | exact Fin.ext (by simp)

/-- The real input slabs. -/
theorem r51 (q : Fin 4) (c : Fin 128) (p : Fin 512) : val_main_v51 (F := Ideal) a0 a1 a2 a3 a4 (ix3 q c p) =
    if p.val / 64 = c.val / 16 then val_main_v34 (F := Ideal) a0 a1 a2 a3 a4 (ix3 (head q p) (pos p) ⟨c.val % 16, by omega⟩)
      else 0 := by
  rw [val_main_v51_apply]
  refine (congrArg _ (split51 q c p)).trans ?_
  generalize hx : val_main_v45 (F := Ideal) a0 a1 a2 a3 a4 = X
  pointwise [val_main_v50, val_main_call0_v1, val_main_call0_v2, val_main_call0_v3, val_main_call0_v0, val_main_v49,
    val_main_v48, val_main_v47, val_main_v46, val_main_cst_1, hx, id_eq]
  refine (congrArg (fun b => Scalar.select b _ _) (same ⟨c.val / 16, by omega⟩ ⟨p.val / 64, by omega⟩)).trans
    ((mask_one _ _).trans ?_)
  by_cases h : p.val / 64 = c.val / 16
  · rw [if_pos h, if_pos h, ← hx, val_main_v45_apply]
    refine (congrArg _ (join45 q ⟨c.val / 16, by omega⟩ ⟨c.val % 16, by omega⟩ (pos p))).trans ?_
    rw [show (⟨8 * q.val + c.val / 16, by omega⟩ : Fin 32) = head q p from Fin.ext (by simp only [head]; omega)]
    pointwise [val_main_v44]
  · rw [if_neg h, if_neg h]

/-- The imaginary input slabs. -/
theorem r59 (q : Fin 4) (c : Fin 128) (p : Fin 512) : val_main_v59 (F := Ideal) a0 a1 a2 a3 a4 (ix3 q c p) =
    if p.val / 64 = c.val / 16 then val_main_v39 (F := Ideal) a0 a1 a2 a3 a4 (ix3 (head q p) (pos p) ⟨c.val % 16, by omega⟩)
      else 0 := by
  rw [val_main_v59_apply]
  refine (congrArg _ (split51 q c p)).trans ?_
  generalize hx : val_main_v53 (F := Ideal) a0 a1 a2 a3 a4 = X
  pointwise [val_main_v58, val_main_call1_v1, val_main_call1_v2, val_main_call1_v3, val_main_call1_v0, val_main_v57,
    val_main_v56, val_main_v55, val_main_v54, val_main_cst_2, hx, id_eq]
  refine (congrArg (fun b => Scalar.select b _ _) (same ⟨c.val / 16, by omega⟩ ⟨p.val / 64, by omega⟩)).trans
    ((mask_one _ _).trans ?_)
  by_cases h : p.val / 64 = c.val / 16
  · rw [if_pos h, if_pos h, ← hx, val_main_v53_apply]
    refine (congrArg _ (join45 q ⟨c.val / 16, by omega⟩ ⟨c.val % 16, by omega⟩ (pos p))).trans ?_
    rw [show (⟨8 * q.val + c.val / 16, by omega⟩ : Fin 32) = head q p from Fin.ext (by simp only [head]; omega)]
    pointwise [val_main_v52]
  · rw [if_neg h, if_neg h]

/-- The real output slabs. -/
theorem r68 (q : Fin 4) (p : Fin 512) (c : Fin 128) : val_main_v68 (F := Ideal) a5 (ix3 q p c) =
    if c.val / 16 = p.val / 64 then a5 (ix3 (head q p) ⟨c.val % 16, by omega⟩ (pos p)) else 0 := by
  rw [val_main_v68_apply]
  refine (congrArg _ (split68 q p c)).trans ?_
  generalize hx : val_main_v62 (F := Ideal) a5 = X
  pointwise [val_main_v67, val_main_call2_v1, val_main_call2_v2, val_main_call2_v3, val_main_call2_v0, val_main_v66,
    val_main_v65, val_main_v64, val_main_v63, val_main_cst_3, hx, id_eq]
  refine (congrArg (fun b => Scalar.select b _ _) (same ⟨p.val / 64, by omega⟩ ⟨c.val / 16, by omega⟩)).trans
    ((mask_one _ _).trans ?_)
  by_cases h : c.val / 16 = p.val / 64
  · rw [if_pos h, if_pos h, ← hx, val_main_v62_apply]
    refine (congrArg _ (join62 q ⟨p.val / 64, by omega⟩ (pos p) ⟨c.val % 16, by omega⟩)).trans ?_
    pointwise [val_main_v61]
    rfl
  · rw [if_neg h, if_neg h]

/-- The negated imaginary output slabs. -/
theorem r77 (q : Fin 4) (p : Fin 512) (c : Fin 128) : val_main_v77 (F := Ideal) a6 (ix3 q p c) =
    if c.val / 16 = p.val / 64 then -a6 (ix3 (head q p) ⟨c.val % 16, by omega⟩ (pos p)) else 0 := by
  rw [val_main_v77_apply]
  refine (congrArg _ (split68 q p c)).trans ?_
  generalize hx : val_main_v71 (F := Ideal) a6 = X
  pointwise [val_main_v76, val_main_call3_v1, val_main_call3_v2, val_main_call3_v3, val_main_call3_v0, val_main_v75,
    val_main_v74, val_main_v73, val_main_v72, val_main_cst_4, hx, id_eq]
  refine (congrArg (fun b => Scalar.select b _ _) (same ⟨p.val / 64, by omega⟩ ⟨c.val / 16, by omega⟩)).trans
    ((mask_one _ _).trans ?_)
  by_cases h : c.val / 16 = p.val / 64
  · rw [if_pos h, if_pos h, ← hx, val_main_v71_apply]
    refine (congrArg _ (join62 q ⟨p.val / 64, by omega⟩ (pos p) ⟨c.val % 16, by omega⟩)).trans ?_
    pointwise [val_main_v70, val_main_v69]
    rfl
  · rw [if_neg h, if_neg h]

/-- The causal spatial weights. -/
theorem r95 (g : Fin 8) (i j : Fin 128) : val_main_v95 (F := Ideal) a7 (ix3 g i j) =
    if j.val ≤ i.val then a7 (ix3 g i j) else 0 := by
  pointwise [val_main_v95, val_main_v83, val_main_call4_v1, val_main_call4_v2, val_main_call4_v0, val_main_v82,
    val_main_v81, val_main_v80, val_main_v79, val_main_cst_5, id_eq, tri]
  exact mask_one _ _

/-- The first half of the input slabs is the real one. -/
theorem r93_lo (q : Fin 4) (c : Fin 128) (p : Fin 512) : val_main_v93 (F := Ideal) a0 a1 a2 a3 a4 (ix3 q c (lo p)) =
    val_main_v51 (F := Ideal) a0 a1 a2 a3 a4 (ix3 q c p) := by
  pointwise [val_main_v93, val_main_v60]
  exact dif_pos p.isLt

/-- The second half is the imaginary one. -/
theorem r93_hi (q : Fin 4) (c : Fin 128) (p : Fin 512) : val_main_v93 (F := Ideal) a0 a1 a2 a3 a4 (ix3 q c (hi p)) =
    val_main_v59 (F := Ideal) a0 a1 a2 a3 a4 (ix3 q c p) := by
  pointwise [val_main_v93, val_main_v60]
  exact (dif_neg (hi_lt p)).trans (by simp only [hi_sub])

/-- The first half of the output slabs is the real one. -/
theorem r94_lo (q : Fin 4) (p : Fin 512) (c : Fin 128) : val_main_v94 (F := Ideal) a5 a6 (ix3 q (lo p) c) =
    val_main_v68 (F := Ideal) a5 (ix3 q p c) := by
  pointwise [val_main_v94, val_main_v78]
  exact dif_pos p.isLt

/-- The second half is the negated imaginary one. -/
theorem r94_hi (q : Fin 4) (p : Fin 512) (c : Fin 128) : val_main_v94 (F := Ideal) a5 a6 (ix3 q (hi p) c) =
    val_main_v77 (F := Ideal) a6 (ix3 q p c) := by
  pointwise [val_main_v94, val_main_v78]
  exact (dif_neg (hi_lt p)).trans (by simp only [hi_sub])

/-- The bias, spread over the columns of its group. -/
theorem r87 (i : Fin 128) (n : Fin 1024) : val_main_v87 (F := Ideal) a8 (ix2 i n) = a8 (ix2 ⟨n.val / 128, by omega⟩ i) := by
  rw [val_main_v87_apply, show idx_main_v87 (ix2 i n) = ix3 i ⟨n.val / 128, by omega⟩ ⟨n.val % 128, by omega⟩
    from funext fun a => by fin_cases a <;> exact Fin.ext (by simp; omega)]
  pointwise [val_main_v86, val_main_v85, val_main_v84]

/-- Each group's first spatial weight, spread over its columns. -/
theorem r92 (n : Fin 1024) : val_main_v92 (F := Ideal) a7 (ix2 0 n) = a7 (ix3 ⟨n.val / 128, by omega⟩ 0 0) := by
  rw [val_main_v92_apply, show idx_main_v92 (ix2 0 n) = ix2 ⟨n.val / 128, by omega⟩ ⟨n.val % 128, by omega⟩
    from funext fun a => by fin_cases a <;> exact Fin.ext (by simp)]
  pointwise [val_main_v91, val_main_v90, val_main_v89, val_main_v88]

/-- A column of 1024 is in the first half or in the second. -/
theorem halves (n : Fin 1024) : ∃ p : Fin 512, n = lo p ∨ n = hi p := by
  by_cases h : n.val < 512
  · exact ⟨⟨n.val, h⟩, Or.inl rfl⟩
  · exact ⟨⟨n.val - 512, by omega⟩, Or.inr (Fin.ext (by simp only [hi]; omega))⟩

/-- A state's row of the stacked input matrices. -/
theorem flatB_st (q : Fin 4) (p : Fin 512) (c : Fin 16) : flatB a3 (ix2 (st q p) c) = a3 (ix3 (head q p) (pos p) c) := by
  refine congrArg a3 (funext fun a => ?_)
  fin_cases a
  · exact Fin.ext (by simp [st, head]; omega)
  · exact Fin.ext (by simp [st, pos]; omega)
  · rfl

/-- A channel's row of the stacked output matrices. -/
theorem flatC_chan (q : Fin 4) (p : Fin 512) (c : Fin 128) (h : c.val / 16 = p.val / 64) (e : Fin 64) :
    flatC a5 (ix2 (chan q c) e) = a5 (ix3 (head q p) ⟨c.val % 16, by omega⟩ e) := by
  refine congrArg a5 (funext fun a => ?_)
  fin_cases a
  · exact Fin.ext (by simp [chan, head]; omega)
  · exact Fin.ext (by simp [chan]; omega)
  · rfl

/-- The first results agree. -/
theorem tie9 : Cert.PrepIdeal.Gen.out0_9 (F := Ideal) a0 a1 (flatT a2) (flatB a3) (flatB a4) (flatC a5) (flatC a6) a7 a8 =
    val_main_v41 (F := Ideal) a0 a1 a2 := by
  funext j; idx_vars j
  rw [← st_divmod j1, out9, r41]

/-- The second results agree. -/
theorem tie10 : Cert.PrepIdeal.Gen.out0_10 (F := Ideal) a0 a1 (flatT a2) (flatB a3) (flatB a4) (flatC a5) (flatC a6) a7 a8 =
    val_main_v43 (F := Ideal) a0 a1 a2 := by
  funext j; idx_vars j
  rw [← st_divmod j1, out10, r43]

/-- The third results agree. -/
theorem tie11 : Cert.PrepIdeal.Gen.out0_11 (F := Ideal) a0 a1 (flatT a2) (flatB a3) (flatB a4) (flatC a5) (flatC a6) a7 a8 =
    val_main_v93 (F := Ideal) a0 a1 a2 a3 a4 := by
  funext j; idx_vars j
  obtain ⟨p, rfl | rfl⟩ := halves j2
  · rw [out11_lo, r93_lo, r51, r34, flatB_st, flatB_st]
  · rw [out11_hi, r93_hi, r59, r39, flatB_st, flatB_st]

/-- The fourth results agree. -/
theorem tie12 : Cert.PrepIdeal.Gen.out0_12 (F := Ideal) a0 a1 (flatT a2) (flatB a3) (flatB a4) (flatC a5) (flatC a6) a7 a8 =
    val_main_v94 (F := Ideal) a5 a6 := by
  funext j; idx_vars j
  obtain ⟨p, rfl | rfl⟩ := halves j1
  · rw [out12_lo, r94_lo, r68]
    by_cases h : j2.val / 16 = p.val / 64
    · rw [if_pos h, if_pos h, flatC_chan a5 j0 p j2 h]
    · rw [if_neg h, if_neg h]
  · rw [out12_hi, r94_hi, r77]
    by_cases h : j2.val / 16 = p.val / 64
    · rw [if_pos h, if_pos h, flatC_chan a6 j0 p j2 h]
    · rw [if_neg h, if_neg h]

/-- The fifth results agree. -/
theorem tie13 : Cert.PrepIdeal.Gen.out0_13 (F := Ideal) a0 a1 (flatT a2) (flatB a3) (flatB a4) (flatC a5) (flatC a6) a7 a8 =
    val_main_v95 (F := Ideal) a7 := by
  funext j; idx_vars j
  rw [out13, r95]

/-- The sixth results agree. -/
theorem tie14 : Cert.PrepIdeal.Gen.out0_14 (F := Ideal) a0 a1 (flatT a2) (flatB a3) (flatB a4) (flatC a5) (flatC a6) a7 a8 =
    val_main_v87 (F := Ideal) a8 := by
  funext j; idx_vars j
  rw [out14, r87]

/-- The seventh results agree. -/
theorem tie15 : Cert.PrepIdeal.Gen.out0_15 (F := Ideal) a0 a1 (flatT a2) (flatB a3) (flatB a4) (flatC a5) (flatC a6) a7 a8 =
    val_main_v92 (F := Ideal) a7 := by
  funext j; idx_vars j
  obtain rfl : j0 = 0 := Subsingleton.elim _ _
  rw [out15, r92]

/-- The reference runs, leaves its arguments as they were, and ends with every counter at zero (it has none). -/
theorem frameRef : Cert.quiescent_PrepRefIdeal := fun m g _ =>
  (θ_run _ _ _).mono (fun r h => ⟨fun c => (h c).2.2.2.2.2.2.2, sem_eq_zero_of_no_sems (by decide) r.2⟩)
    (Cert.PrepRefIdeal.Value.run m g)

end Cert.PrepMix

end
-- ==== Proof.PrepClaim.lean ====
/- The preparation kernel's results as arrays, and the claim: the two programs' results are equal over the extended
   reals. -/
module

public import proofs.«01_k».proof.Defs
public import proofs.«01_k».proof.Proof.PrepRef

@[expose] public section

set_option maxRecDepth 16384

noncomputable section

namespace Cert.PrepMix

open Idealize.ShloMosaic Idealize.SL.Sem
open Cert.PrepIdeal Cert.PrepIdeal.Gen Cert.Layer

variable (m : (ℓ : Loc nD τ sig) → Buf (Elt Ideal) ℓ) (c : Dev nD) (t : Fin cfg0.N)

/-- Every window is whole. -/
theorem idx : ∀ t : Fin cfg0.N,
    (win0_0.index t (0 : Fin 2) = 0 ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 3) = 0 ∧ win0_7.index t (1 : Fin 3) = 0 ∧ win0_7.index t (2 : Fin 3) = 0) ∧
    (win0_8.index t (0 : Fin 2) = 0 ∧ win0_8.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 3) = 0 ∧ win0_11.index t (1 : Fin 3) = 0 ∧ win0_11.index t (2 : Fin 3) = 0) ∧
    (win0_12.index t (0 : Fin 3) = 0 ∧ win0_12.index t (1 : Fin 3) = 0 ∧ win0_12.index t (2 : Fin 3) = 0) ∧
    (win0_13.index t (0 : Fin 3) = 0 ∧ win0_13.index t (1 : Fin 3) = 0 ∧ win0_13.index t (2 : Fin 3) = 0) ∧
    (win0_14.index t (0 : Fin 2) = 0 ∧ win0_14.index t (1 : Fin 2) = 0) ∧
    (win0_15.index t (0 : Fin 2) = 0 ∧ win0_15.index t (1 : Fin 2) = 0) := by decide +kernel

/-! What the host reshapes leave for the kernel. -/

/-- The step sizes, as one row. -/
theorem v0 (h : Fin 32) : V m c main_v0 (ix2 0 h) = flatT (m ((c.tc : Thread nD τ).loc main_arg2)) (ix2 0 h) := by
  entry_read
  pointwise [flatT]

/-- The real input matrices, below one another. -/
theorem v1 (r : Fin 2048) (k : Fin 16) : V m c main_v1 (ix2 r k) = flatB (m ((c.tc : Thread nD τ).loc main_arg3)) (ix2 r k) := by
  entry_read
  pointwise [flatB]

/-- The imaginary input matrices, likewise. -/
theorem v2 (r : Fin 2048) (k : Fin 16) : V m c main_v2 (ix2 r k) = flatB (m ((c.tc : Thread nD τ).loc main_arg4)) (ix2 r k) := by
  entry_read
  pointwise [flatB]

/-- The real output matrices, likewise. -/
theorem v3 (r : Fin 512) (k : Fin 64) : V m c main_v3 (ix2 r k) = flatC (m ((c.tc : Thread nD τ).loc main_arg5)) (ix2 r k) := by
  entry_read
  pointwise [flatC]

/-- The imaginary output matrices, likewise. -/
theorem v4 (r : Fin 512) (k : Fin 64) : V m c main_v4 (ix2 r k) = flatC (m ((c.tc : Thread nD τ).loc main_arg6)) (ix2 r k) := by
  entry_read
  pointwise [flatC]

/-! The blocks the kernel reads. -/

/-- The rates, real part. -/
theorem b0 : iblk m c 0 t = m ((c.tc : Thread nD τ).loc main_arg0) := by
  funext j
  blk_ext [iblk, V_main_arg0, idx t]

/-- The rates, imaginary part. -/
theorem b1 : iblk m c 1 t = m ((c.tc : Thread nD τ).loc main_arg1) := by
  funext j
  blk_ext [iblk, V_main_arg1, idx t]

/-- The spatial weights. -/
theorem b7 : iblk m c 7 t = m ((c.tc : Thread nD τ).loc main_arg7) := by
  funext j
  blk_ext [iblk, V_main_arg7, idx t]

/-- The spatial bias. -/
theorem b8 : iblk m c 8 t = m ((c.tc : Thread nD τ).loc main_arg8) := by
  funext j
  blk_ext [iblk, V_main_arg8, idx t]

/-- The step sizes. -/
theorem b2 : iblk m c 2 t = flatT (m ((c.tc : Thread nD τ).loc main_arg2)) := by
  funext j; idx_vars j
  obtain rfl : j0 = 0 := Subsingleton.elim _ _
  refine Eq.trans ?_ (v0 m c j1)
  blk_ext [iblk, idx t]

/-- The real input matrices. -/
theorem b3 : iblk m c 3 t = flatB (m ((c.tc : Thread nD τ).loc main_arg3)) := by
  funext j; idx_vars j
  refine Eq.trans ?_ (v1 m c j0 j1)
  blk_ext [iblk, idx t]

/-- The imaginary input matrices. -/
theorem b4 : iblk m c 4 t = flatB (m ((c.tc : Thread nD τ).loc main_arg4)) := by
  funext j; idx_vars j
  refine Eq.trans ?_ (v2 m c j0 j1)
  blk_ext [iblk, idx t]

/-- The real output matrices. -/
theorem b5 : iblk m c 5 t = flatC (m ((c.tc : Thread nD τ).loc main_arg5)) := by
  funext j; idx_vars j
  refine Eq.trans ?_ (v3 m c j0 j1)
  blk_ext [iblk, idx t]

/-- The imaginary output matrices. -/
theorem b6 : iblk m c 6 t = flatC (m ((c.tc : Thread nD τ).loc main_arg6)) := by
  funext j; idx_vars j
  refine Eq.trans ?_ (v4 m c j0 j1)
  blk_ext [iblk, idx t]

/-! The results, as the reference writes them. -/

/-- The decay, real part. -/
theorem arr9 : (dats m 0 c).arrAt 9 cfg0.N = Cert.PrepRefIdeal.Read.val_main_v41 (F := Ideal)
    (m ((c.tc : Thread nD τ).loc main_arg0))
    (m ((c.tc : Thread nD τ).loc main_arg1))
    (m ((c.tc : Thread nD τ).loc main_arg2)) := by
  refine (dats m 0 c).arrAt_eq_of_covers 9 _ (by decide +kernel) fun t hf y => ?_
  blk_simp
  rw [after0_9, b0, b1, b2, b3, b4, b5, b6, b7, b8, tie9]
  blk_ext [idx t]

/-- The decay, imaginary part. -/
theorem arr10 : (dats m 0 c).arrAt 10 cfg0.N = Cert.PrepRefIdeal.Read.val_main_v43 (F := Ideal)
    (m ((c.tc : Thread nD τ).loc main_arg0))
    (m ((c.tc : Thread nD τ).loc main_arg1))
    (m ((c.tc : Thread nD τ).loc main_arg2)) := by
  refine (dats m 0 c).arrAt_eq_of_covers 10 _ (by decide +kernel) fun t hf y => ?_
  blk_simp
  rw [after0_10, b0, b1, b2, b3, b4, b5, b6, b7, b8, tie10]
  blk_ext [idx t]

/-- The input slabs. -/
theorem arr11 : (dats m 0 c).arrAt 11 cfg0.N = Cert.PrepRefIdeal.Read.val_main_v93 (F := Ideal)
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4)) := by
  refine (dats m 0 c).arrAt_eq_of_covers 11 _ (by decide +kernel) fun t hf y => ?_
  blk_simp
  rw [after0_11, b0, b1, b2, b3, b4, b5, b6, b7, b8, tie11]
  blk_ext [idx t]

/-- The output slabs. -/
theorem arr12 : (dats m 0 c).arrAt 12 cfg0.N = Cert.PrepRefIdeal.Read.val_main_v94 (F := Ideal)
    (m ((c.tc : Thread nD τ).loc main_arg5))
    (m ((c.tc : Thread nD τ).loc main_arg6)) := by
  refine (dats m 0 c).arrAt_eq_of_covers 12 _ (by decide +kernel) fun t hf y => ?_
  blk_simp
  rw [after0_12, b0, b1, b2, b3, b4, b5, b6, b7, b8, tie12]
  blk_ext [idx t]

/-- The causal spatial weights. -/
theorem arr13 : (dats m 0 c).arrAt 13 cfg0.N = Cert.PrepRefIdeal.Read.val_main_v95 (F := Ideal)
    (m ((c.tc : Thread nD τ).loc main_arg7)) := by
  refine (dats m 0 c).arrAt_eq_of_covers 13 _ (by decide +kernel) fun t hf y => ?_
  blk_simp
  rw [after0_13, b0, b1, b2, b3, b4, b5, b6, b7, b8, tie13]
  blk_ext [idx t]

/-- The spread bias. -/
theorem arr14 : (dats m 0 c).arrAt 14 cfg0.N = Cert.PrepRefIdeal.Read.val_main_v87 (F := Ideal)
    (m ((c.tc : Thread nD τ).loc main_arg8)) := by
  refine (dats m 0 c).arrAt_eq_of_covers 14 _ (by decide +kernel) fun t hf y => ?_
  blk_simp
  rw [after0_14, b0, b1, b2, b3, b4, b5, b6, b7, b8, tie14]
  blk_ext [idx t]

/-- The spread first weights. -/
theorem arr15 : (dats m 0 c).arrAt 15 cfg0.N = Cert.PrepRefIdeal.Read.val_main_v92 (F := Ideal)
    (m ((c.tc : Thread nD τ).loc main_arg7)) := by
  refine (dats m 0 c).arrAt_eq_of_covers 15 _ (by decide +kernel) fun t hf y => ?_
  blk_simp
  rw [after0_15, b0, b1, b2, b3, b4, b5, b6, b7, b8, tie15]
  blk_ext [idx t]

/-- THE CLAIM: from memories that agree on the arguments, the idealized kernel and the idealized reference end with
    equal results. -/
theorem algebraic : Cert.algebraic_PrepIdeal_PrepRefIdeal (hPrepIdeal := Cert.PrepIdeal.Gen.facts)
    (hPrepRefIdeal := Cert.PrepRefIdeal.Gen.facts) := by
  intro m g m' g' _ hagree
  refine ⟨_, _, _, _, _, _, _, Cert.PrepIdeal.Value.run_blocks m g, ?_⟩
  refine (θ_run _ _ _).mono (fun r h c => ?_) (Cert.PrepRefIdeal.Value.run m' g')
  obtain ⟨e0, e1, e2, e3, e4, e5, e6, e7, e8⟩ := hagree c
  obtain ⟨h0, h1, h2, h3, h4, h5, h6, hk⟩ := h c
  refine ⟨h0.trans ?_, h1.trans ?_, h2.trans ?_, h3.trans ?_, h4.trans ?_, h5.trans ?_, h6.trans ?_, hk⟩
  · rw [Cert.PrepRefIdeal.Read.val_main_v41_eq, e0, e1, e2, arr9]
  · rw [Cert.PrepRefIdeal.Read.val_main_v43_eq, e0, e1, e2, arr10]
  · rw [Cert.PrepRefIdeal.Read.val_main_v93_eq, e0, e1, e2, e3, e4, arr11]
  · rw [Cert.PrepRefIdeal.Read.val_main_v94_eq, e5, e6, arr12]
  · rw [Cert.PrepRefIdeal.Read.val_main_v95_eq, e7, arr13]
  · rw [Cert.PrepRefIdeal.Read.val_main_v87_eq, e8, arr14]
  · rw [Cert.PrepRefIdeal.Read.val_main_v92_eq, e7, arr15]

end Cert.PrepMix

end
-- ==== Proof.lean ====
module

public import proofs.«01_k».proof.Defs
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleIdeal.Value
public import proofs.«01_k».proof.Proof.Gen.SampleRefIdeal.Run
public import proofs.«01_k».proof.Proof.Gen.SampleRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Run
public import proofs.«01_k».proof.Proof.Gen.PromptRefIdeal.Step
public import proofs.«01_k».proof.Proof.Gen.PromptRefIdeal.StepRun
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.SampleRef
public import proofs.«01_k».proof.Proof.FfnRef
public import proofs.«01_k».proof.Proof.PromptRef
public import proofs.«01_k».proof.Proof.PrepClaim
public import Idealize.ShloMosaic.Adequacy
public import Idealize.ShloMosaic.Init

@[expose] public section

noncomputable section

namespace Cert.Proof

open Idealize.ShloMosaic Idealize.SL.Sem Cert.Sample

/-- Every claim of the certificate. -/
theorem claim : Cert.Claim := ⟨Cert.Sample.Gen.facts, Cert.SampleIdeal.Gen.facts, Cert.SampleRefIdeal.Gen.facts,
  Cert.Ffn.Gen.facts, Cert.FfnIdeal.Gen.facts, Cert.FfnRefIdeal.Gen.facts, Cert.Prompt.Gen.facts, Cert.PromptIdeal.Gen.facts,
  Cert.PromptRefIdeal.Gen.facts, Cert.Prep.Gen.facts, Cert.PrepIdeal.Gen.facts, Cert.PrepRefIdeal.Gen.facts,
  fun m ρ _ => Cert.Sample.Gen.frame m ρ, fun m ρ _ => Cert.SampleIdeal.Gen.frame m ρ, Cert.SampleMix.frameRef,
  fun m ρ _ => Cert.Ffn.Gen.frame m ρ, fun m ρ _ => Cert.FfnIdeal.Gen.frame m ρ, Cert.FfnMix.frameRef,
  fun m ρ _ => Cert.Prompt.Gen.frame m ρ, fun m ρ _ => Cert.PromptIdeal.Gen.frame m ρ, Cert.PromptMix.frameRef,
  fun m ρ _ => Cert.Prep.Gen.frame m ρ, fun m ρ _ => Cert.PrepIdeal.Gen.frame m ρ, Cert.PrepMix.frameRef,
  trivial, Cert.SampleMix.algebraic, trivial, Cert.FfnMix.algebraic, trivial, Cert.PromptMix.algebraic,
  trivial, Cert.PrepMix.algebraic⟩

end Cert.Proof

end
